-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v158) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_tables_in_range : Cert.Pre_tables_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tables_in_range := hPre_tables_in_range)
-- ==== Pre_finite_scores.lean ====
abbrev S8x16x512x128 : Shape := ⟨4, ![8, 16, 512, 128]⟩
abbrev S8x2048x512 : Shape := ⟨3, ![8, 2048, 512]⟩
abbrev S2x8x257 : Shape := ⟨3, ![2, 8, 257]⟩
abbrev S_ : Shape := ⟨0, ![]⟩

class Facts : Prop where
  bitsLt_bf16_f32 : FTy.bits .bf16 < FTy.bits .f32
  bcast_S_S8x16x512x128 : S_.BroadcastsInDim S8x16x512x128 (![] : Fin 0 → Fin S8x16x512x128.rank)
  reducesTo_S8x16x512x128_S_d0_1_2_3 : S8x16x512x128.ReducesTo [0, 1, 2, 3] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bcast_S_S2x8x257 : S_.BroadcastsInDim S2x8x257 (![] : Fin 0 → Fin S2x8x257.rank)
  reducesTo_S2x8x257_S_d0_1_2 : S2x8x257.ReducesTo [0, 1, 2] S_

variable [Facts]

def fn {F : FTy → Type} [FloatOps F] (main_arg0 : FVec F S8x16x512x128 .bf16) (main_arg1 : FVec F S8x2048x512 .bf16) (main_arg2 : FVec F S8x2048x512 .bf16) (main_arg3 : FVec F S2x8x257 .f32) : IVec S_ 1 :=
  let main_v0 : FVec F S8x16x512x128 .f32 := (extf .f32 · bitsLt_bf16_f32) main_arg0
  let main_v1 : FVec F S8x16x512x128 .f32 := Host.absf main_v0
  let main_cst : FVec F S_ .f32 := constant S_ .f32 0x7F800000#32
  let main_v2 : FVec F S8x16x512x128 .f32 := broadcastInDim S8x16x512x128 ![] bcast_S_S8x16x512x128 main_cst
  let main_v3 : IVec S8x16x512x128 1 := cmpf .olt main_v1 main_v2
  let main_c : IVec S_ 1 := constantI S_ 1 1#1
  let main_v4 : IVec S_ 1 := (fun x v => Host.reduce IntOp.andi x v reducesTo_S8x16x512x128_S_d0_1_2_3 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  let main_v11 : FVec F S2x8x257 .f32 := Host.absf main_arg3
  let main_cst_2 : FVec F S_ .f32 := constant S_ .f32 0x7F800000#32
  let main_v12 : FVec F S2x8x257 .f32 := broadcastInDim S2x8x257 ![] bcast_S_S2x8x257 main_cst_2
  let main_v13 : IVec S2x8x257 1 := cmpf .olt main_v11 main_v12
  let main_c_3 : IVec S_ 1 := constantI S_ 1 1#1
  let main_v14 : IVec S_ 1 := (fun x v => Host.reduce IntOp.andi x v reducesTo_S2x8x257_S_d0_1_2 h_S_) main_v13 main_c_3
  let main_v15 : IVec S_ 1 := andi main_v10 main_v14
  main_v15
-- ==== Pre_tables_in_range.lean ====
abbrev S50688x512 : Shape := ⟨2, ![50688, 512]⟩
abbrev S22 : Shape := ⟨1, ![22]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S22 : S_.BroadcastsInDim S22 (![] : Fin 0 → Fin S22.rank)
  reducesTo_S22_S_d0 : S22.ReducesTo [0] S_
  h_S_ : 0 < S_.numel

variable [Facts]

def fn {F : FTy → Type} [FloatOps F] (main_arg0 : IVec S50688x512 32) (main_arg1 : IVec S22 32) (main_arg2 : IVec S22 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S22 32 := broadcastInDim S22 ![] bcast_S_S22 main_c
  let main_v1 : IVec S22 1 := cmpi .sge main_arg1 main_v0
  let main_c_0 : IVec S_ 1 := constantI S_ 1 1#1
  let main_v2 : IVec S_ 1 := (fun x v => Host.reduce IntOp.andi x v reducesTo_S22_S_d0 h_S_) main_v1 main_c_0
  let main_c_1 : IVec S_ 32 := constantI S_ 32 8#32
  let main_v3 : IVec S22 32 := broadcastInDim S22 ![] bcast_S_S22 main_c_1
  let main_v4 : IVec S22 1 := cmpi .slt main_arg1 main_v3
  let main_c_2 : IVec S_ 1 := constantI S_ 1 1#1
  let main_v5 : IVec S_ 1 := (fun x v => Host.reduce IntOp.andi x v reducesTo_S22_S_d0 h_S_) main_v4 main_c_2
  let main_v6 : IVec S_ 1 := andi main_v2 main_v5
  let main_c_3 : IVec S_ 32 := constantI S_ 32 0#32
  let main_v7 : IVec S22 32 := broadcastInDim S22 ![] bcast_S_S22 main_c_3
  let main_v8 : IVec S22 1 := cmpi .sge main_arg2 main_v7
  let main_c_4 : IVec S_ 1 := constantI S_ 1 1#1
  let main_v9 : IVec S_ 1 := (fun x v => Host.reduce IntOp.andi x v reducesTo_S22_S_d0 h_S_) main_v8 main_c_4
  let main_v10 : IVec S_ 1 := andi main_v6 main_v9
  let main_c_5 : IVec S_ 32 := constantI S_ 32 9#32
  let main_v11 : IVec S22 32 := broadcastInDim S22 ![] bcast_S_S22 main_c_5
  let main_v12 : IVec S22 1 := cmpi .sle main_arg2 main_v11
  let main_c_6 : IVec S_ 1 := constantI S_ 1 1#1
  let main_v13 : IVec S_ 1 := (fun x v => Host.reduce IntOp.andi x v reducesTo_S22_S_d0 h_S_) main_v12 main_c_6
  let main_v14 : IVec S_ 1 := andi main_v10 main_v13
  main_v14
-- ==== Kernel.lean ====
abbrev S8x16x512x128 : Shape := ⟨4, ![8, 16, 512, 128]⟩
abbrev S8x2048x512 : Shape := ⟨3, ![8, 2048, 512]⟩
abbrev S2x8x257 : Shape := ⟨3, ![2, 8, 257]⟩
abbrev S16x257 : Shape := ⟨2, ![16, 257]⟩
abbrev S16x1 : Shape := ⟨2, ![16, 1]⟩
abbrev S16x1x512 : Shape := ⟨3, ![16, 1, 512]⟩
abbrev S16x512 : Shape := ⟨2, ![16, 512]⟩
abbrev S16x255 : Shape := ⟨2, ![16, 255]⟩
abbrev S16x767 : Shape := ⟨2, ![16, 767]⟩
abbrev S_ : Shape := ⟨0, ![]⟩
abbrev S16x768 : Shape := ⟨2, ![16, 768]⟩
abbrev S16x6x128 : Shape := ⟨3, ![16, 6, 128]⟩
abbrev S4x24x128 : Shape := ⟨3, ![4, 24, 128]⟩
abbrev S4x640x512 : Shape := ⟨3, ![4, 640, 512]⟩
abbrev S1x24x128 : Shape := ⟨3, ![1, 24, 128]⟩
abbrev S1x640x512 : Shape := ⟨3, ![1, 640, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S1x16x256x128 : Shape := ⟨4, ![1, 16, 256, 128]⟩
abbrev S1x2048x256 : Shape := ⟨3, ![1, 2048, 256]⟩
abbrev S2560x256 : Shape := ⟨2, ![2560, 256]⟩
abbrev S640x512 : Shape := ⟨2, ![640, 512]⟩
abbrev S1x512 : Shape := ⟨2, ![1, 512]⟩
abbrev S512x256 : Shape := ⟨2, ![512, 256]⟩
abbrev S2048x256 : Shape := ⟨2, ![2048, 256]⟩
abbrev S256x512 : Shape := ⟨2, ![256, 512]⟩
abbrev S1x1x256x128 : Shape := ⟨4, ![1, 1, 256, 128]⟩
abbrev S256x128 : Shape := ⟨2, ![256, 128]⟩
abbrev S640x256 : Shape := ⟨2, ![640, 256]⟩
abbrev S512 : Shape := ⟨1, ![512]⟩
abbrev S8x512 : Shape := ⟨2, ![8, 512]⟩
abbrev S512x8 : Shape := ⟨2, ![512, 8]⟩
abbrev S512x1 : Shape := ⟨2, ![512, 1]⟩
abbrev S128x64 : Shape := ⟨2, ![128, 64]⟩
abbrev S128x1 : Shape := ⟨2, ![128, 1]⟩
abbrev S128x256 : Shape := ⟨2, ![128, 256]⟩
abbrev S1x128x256 : Shape := ⟨3, ![1, 128, 256]⟩

abbrev nBuf : Space → Nat
  | .hbm => 18
  | .vmem => 22
  | .smem => 0
  | _ => 0

abbrev bufTy : (tb : Table) → Fin (tcTables nBuf tb) → BufTy
  | .hbm, ⟨0, _⟩ => ⟨S8x16x512x128, .bf16⟩
  | .hbm, ⟨1, _⟩ => ⟨S8x2048x512, .bf16⟩
  | .hbm, ⟨2, _⟩ => ⟨S8x2048x512, .bf16⟩
  | .hbm, ⟨3, _⟩ => ⟨S2x8x257, .f32⟩
  | .hbm, ⟨4, _⟩ => ⟨S16x257, .f32⟩
  | .hbm, ⟨5, _⟩ => ⟨S16x1, .f32⟩
  | .hbm, ⟨6, _⟩ => ⟨S16x1x512, .f32⟩
  | .hbm, ⟨7, _⟩ => ⟨S16x512, .f32⟩
  | .hbm, ⟨8, _⟩ => ⟨S16x255, .f32⟩
  | .hbm, ⟨9, _⟩ => ⟨S16x767, .f32⟩
  | .hbm, ⟨10, _⟩ => ⟨S_, .i32⟩
  | .hbm, ⟨11, _⟩ => ⟨S_, .f32⟩
  | .hbm, ⟨12, _⟩ => ⟨S16x768, .f32⟩
  | .hbm, ⟨13, _⟩ => ⟨S16x6x128, .f32⟩
  | .hbm, ⟨14, _⟩ => ⟨S16x6x128, .f32⟩
  | .hbm, ⟨15, _⟩ => ⟨S4x24x128, .f32⟩
  | .hbm, ⟨16, _⟩ => ⟨S4x640x512, .f32⟩
  | .hbm, ⟨17, _⟩ => ⟨S8x2048x512, .bf16⟩
  | .local _ .vmem, ⟨0, _⟩ => ⟨S1x24x128, .f32⟩
  | .local _ .vmem, ⟨1, _⟩ => ⟨S1x24x128, .f32⟩
  | .local _ .vmem, ⟨2, _⟩ => ⟨S1x640x512, .f32⟩
  | .local _ .vmem, ⟨3, _⟩ => ⟨S1x640x512, .f32⟩
  | .local _ .vmem, ⟨4, _⟩ => ⟨S1x16x256x128, .bf16⟩
  | .local _ .vmem, ⟨5, _⟩ => ⟨S1x16x256x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x640x512, .f32⟩
  | .local _ .vmem, ⟨11, _⟩ => ⟨S1x640x512, .f32⟩
  | .local _ .vmem, ⟨12, _⟩ => ⟨S1x2048x256, .bf16⟩
  | .local _ .vmem, ⟨13, _⟩ => ⟨S1x2048x256, .bf16⟩
  | .local _ .vmem, ⟨14, _⟩ => ⟨S2560x256, .bf16⟩
  | .local _ .vmem, ⟨15, _⟩ => ⟨S2560x256, .bf16⟩
  | .local _ .vmem, ⟨16, _⟩ => ⟨S640x512, .f32⟩
  | .local _ .vmem, ⟨17, _⟩ => ⟨S640x512, .f32⟩
  | .local _ .vmem, ⟨18, _⟩ => ⟨S640x512, .bf16⟩
  | .local _ .vmem, ⟨19, _⟩ => ⟨S640x512, .bf16⟩
  | .local _ .vmem, ⟨20, _⟩ => ⟨S1x512, .f32⟩
  | .local _ .vmem, ⟨21, _⟩ => ⟨S1x512, .f32⟩
  | _, _ => ⟨S8x16x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc1_scratch6 : Ref sig .tc := ⟨.vmem, 20, rfl⟩
abbrev cc1_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x16x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x640x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x16x512x128 : Shape := ⟨4, ![8, 16, 512, 128]⟩
abbrev S8x2048x512 : Shape := ⟨3, ![8, 2048, 512]⟩
abbrev S2x8x257 : Shape := ⟨3, ![2, 8, 257]⟩
abbrev S8x16x128x512 : Shape := ⟨4, ![8, 16, 128, 512]⟩
abbrev S8x2048x8x64 : Shape := ⟨4, ![8, 2048, 8, 64]⟩
abbrev S_ : Shape := ⟨0, ![]⟩
abbrev S8x2560x8x64 : Shape := ⟨4, ![8, 2560, 8, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S32x576x1 : Shape := ⟨3, ![32, 576, 1]⟩
abbrev S8x32x576x8x64 : Shape := ⟨5, ![8, 32, 576, 8, 64]⟩
abbrev S8x32x64x8x64 : Shape := ⟨5, ![8, 32, 64, 8, 64]⟩
abbrev S8x32x8x64x576 : Shape := ⟨5, ![8, 32, 8, 64, 576]⟩
abbrev S64 : Shape := ⟨1, ![64]⟩
abbrev S64x1 : Shape := ⟨2, ![64, 1]⟩
abbrev S64x576 : Shape := ⟨2, ![64, 576]⟩
abbrev S1x8x257 : Shape := ⟨3, ![1, 8, 257]⟩
abbrev S8x257 : Shape := ⟨2, ![8, 257]⟩
abbrev S64x576x1 : Shape := ⟨3, ![64, 576, 1]⟩
abbrev S8x64x576 : Shape := ⟨3, ![8, 64, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩

abbrev nBuf : Space → Nat
  | .hbm => 109
  | .vmem => 0
  | .smem => 0
  | _ => 0

abbrev bufTy : (tb : Table) → Fin (tcTables nBuf tb) → BufTy
  | .hbm, ⟨0, _⟩ => ⟨S8x16x512x128, .bf16⟩
  | .hbm, ⟨1, _⟩ => ⟨S8x2048x512, .bf16⟩
  | .hbm, ⟨2, _⟩ => ⟨S8x2048x512, .bf16⟩
  | .hbm, ⟨3, _⟩ => ⟨S2x8x257, .f32⟩
  | .hbm, ⟨4, _⟩ => ⟨S8x16x512x128, .f32⟩
  | .hbm, ⟨5, _⟩ => ⟨S8x16x128x512, .f32⟩
  | .hbm, ⟨6, _⟩ => ⟨S8x2048x8x64, .f32⟩
  | .hbm, ⟨7, _⟩ => ⟨S8x2048x512, .f32⟩
  | .hbm, ⟨8, _⟩ => ⟨S8x2048x8x64, .f32⟩
  | .hbm, ⟨9, _⟩ => ⟨S8x2048x512, .f32⟩
  | .hbm, ⟨10, _⟩ => ⟨S8x2048x8x64, .f32⟩
  | .hbm, ⟨11, _⟩ => ⟨S_, .i32⟩
  | .hbm, ⟨12, _⟩ => ⟨S_, .f32⟩
  | .hbm, ⟨13, _⟩ => ⟨S8x2560x8x64, .f32⟩
  | .hbm, ⟨14, _⟩ => ⟨S_, .i32⟩
  | .hbm, ⟨15, _⟩ => ⟨S_, .f32⟩
  | .hbm, ⟨16, _⟩ => ⟨S8x2560x8x64, .f32⟩
  | .hbm, ⟨17, _⟩ => ⟨S32, .i32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i32⟩
  | .hbm, ⟨22, _⟩ => ⟨S576, .i32⟩
  | .hbm, ⟨23, _⟩ => ⟨S1x576, .i32⟩
  | .hbm, ⟨24, _⟩ => ⟨S32x576, .i32⟩
  | .hbm, ⟨25, _⟩ => ⟨S32x576, .i32⟩
  | .hbm, ⟨26, _⟩ => ⟨S32x576, .i32⟩
  | .hbm, ⟨27, _⟩ => ⟨S_, .i32⟩
  | .hbm, ⟨28, _⟩ => ⟨S32x576, .i32⟩
  | .hbm, ⟨29, _⟩ => ⟨S32x576, .i1⟩
  | .hbm, ⟨30, _⟩ => ⟨S_, .i32⟩
  | .hbm, ⟨31, _⟩ => ⟨S32x576, .i32⟩
  | .hbm, ⟨32, _⟩ => ⟨S32x576, .i32⟩
  | .hbm, ⟨33, _⟩ => ⟨S32x576, .i32⟩
  | .hbm, ⟨34, _⟩ => ⟨S32x576x1, .i32⟩
  | .hbm, ⟨35, _⟩ => ⟨S8x32x576x8x64, .f32⟩
  | .hbm, ⟨36, _⟩ => ⟨S_, .i32⟩
  | .hbm, ⟨37, _⟩ => ⟨S32x576, .i32⟩
  | .hbm, ⟨38, _⟩ => ⟨S32x576, .i1⟩
  | .hbm, ⟨39, _⟩ => ⟨S_, .i32⟩
  | .hbm, ⟨40, _⟩ => ⟨S32x576, .i32⟩
  | .hbm, ⟨41, _⟩ => ⟨S32x576, .i32⟩
  | .hbm, ⟨42, _⟩ => ⟨S32x576, .i32⟩
  | .hbm, ⟨43, _⟩ => ⟨S32x576x1, .i32⟩
  | .hbm, ⟨44, _⟩ => ⟨S8x32x576x8x64, .f32⟩
  | .hbm, ⟨45, _⟩ => ⟨S8x32x64x8x64, .f32⟩
  | .hbm, ⟨46, _⟩ => ⟨S8x32x8x64x576, .f32⟩
  | .hbm, ⟨47, _⟩ => ⟨S576, .i32⟩
  | .hbm, ⟨48, _⟩ => ⟨S1x576, .i32⟩
  | .hbm, ⟨49, _⟩ => ⟨S_, .i32⟩
  | .hbm, ⟨50, _⟩ => ⟨S1x576, .i32⟩
  | .hbm, ⟨51, _⟩ => ⟨S1x576, .i32⟩
  | .hbm, ⟨52, _⟩ => ⟨S64, .i32⟩
  | .hbm, ⟨53, _⟩ => ⟨S64x1, .i32⟩
  | .hbm, ⟨54, _⟩ => ⟨S64x576, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S1x8x257, .f32⟩
  | .hbm, ⟨69, _⟩ => ⟨S8x257, .f32⟩
  | .hbm, ⟨70, _⟩ => ⟨S_, .i32⟩
  | .hbm, ⟨71, _⟩ => ⟨S64x576, .i32⟩
  | .hbm, ⟨72, _⟩ => ⟨S64x576, .i1⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S64x576, .i32⟩
  | .hbm, ⟨77, _⟩ => ⟨S64x576x1, .i32⟩
  | .hbm, ⟨78, _⟩ => ⟨S8x64x576, .f32⟩
  | .hbm, ⟨79, _⟩ => ⟨S_, .i32⟩
  | .hbm, ⟨80, _⟩ => ⟨S32x576, .i32⟩
  | .hbm, ⟨81, _⟩ => ⟨S32x576, .i1⟩
  | .hbm, ⟨82, _⟩ => ⟨S1x32x1x1x576, .i1⟩
  | .hbm, ⟨83, _⟩ => ⟨S1x1x8x64x576, .f32⟩
  | .hbm, ⟨84, _⟩ => ⟨S8x32x8x64x576, .f32⟩
  | .hbm, ⟨85, _⟩ => ⟨S8x32x8x64x576, .f32⟩
  | .hbm, ⟨86, _⟩ => ⟨S_, .f32⟩
  | .hbm, ⟨87, _⟩ => ⟨S_, .f32⟩
  | .hbm, ⟨88, _⟩ => ⟨S8x32x8x64x576, .i1⟩
  | .hbm, ⟨89, _⟩ => ⟨S8x32x8x64x576, .f32⟩
  | .hbm, ⟨90, _⟩ => ⟨S8x32x8x64x576, .f32⟩
  | .hbm, ⟨91, _⟩ => ⟨S_, .f32⟩
  | .hbm, ⟨92, _⟩ => ⟨S8x32x8x64, .f32⟩
  | .hbm, ⟨93, _⟩ => ⟨S_, .f32⟩
  | .hbm, ⟨94, _⟩ => ⟨S8x32x8x64, .f32⟩
  | .hbm, ⟨95, _⟩ => ⟨S8x32x8x64, .f32⟩
  | .hbm, ⟨96, _⟩ => ⟨S8x32x8x64x1, .f32⟩
  | .hbm, ⟨97, _⟩ => ⟨S8x32x8x64x576, .f32⟩
  | .hbm, ⟨98, _⟩ => ⟨S8x32x8x64x576, .f32⟩
  | .hbm, ⟨99, _⟩ => ⟨S8x32x8x64x576, .f32⟩
  | .hbm, ⟨100, _⟩ => ⟨S_, .f32⟩
  | .hbm, ⟨101, _⟩ => ⟨S8x32x8x64, .f32⟩
  | .hbm, ⟨102, _⟩ => ⟨S8x32x8x64x1, .f32⟩
  | .hbm, ⟨103, _⟩ => ⟨S8x32x8x64x576, .f32⟩
  | .hbm, ⟨104, _⟩ => ⟨S8x32x8x64x576, .f32⟩
  | .hbm, ⟨105, _⟩ => ⟨S8x32x8x64x64, .f32⟩
  | .hbm, ⟨106, _⟩ => ⟨S8x32x64x8x64, .f32⟩
  | .hbm, ⟨107, _⟩ => ⟨S8x2048x512, .f32⟩
  | .hbm, ⟨108, _⟩ => ⟨S8x2048x512, .bf16⟩
  | _, _ => ⟨S8x16x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_c_8 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Kernel2.lean ====
abbrev S50688x512 : Shape := ⟨2, ![50688, 512]⟩
abbrev S22 : Shape := ⟨1, ![22]⟩
abbrev S8x1024x3584 : Shape := ⟨3, ![8, 1024, 3584]⟩
abbrev S8x3584x1024 : Shape := ⟨3, ![8, 3584, 1024]⟩
abbrev S50688x1024 : Shape := ⟨2, ![50688, 1024]⟩
abbrev S2304x512 : Shape := ⟨2, ![2304, 512]⟩
abbrev S1x1024x512 : Shape := ⟨3, ![1, 1024, 512]⟩
abbrev S1 : Shape := ⟨1, ![1]⟩
abbrev S1x512x1024 : Shape := ⟨3, ![1, 512, 1024]⟩
abbrev S2304x1024 : Shape := ⟨2, ![2304, 1024]⟩
abbrev S1024x512 : Shape := ⟨2, ![1024, 512]⟩
abbrev S512x1024 : Shape := ⟨2, ![512, 1024]⟩
abbrev S1024x1024 : Shape := ⟨2, ![1024, 1024]⟩
abbrev S256x512 : Shape := ⟨2, ![256, 512]⟩
abbrev S256x1024 : Shape := ⟨2, ![256, 1024]⟩
abbrev S512x512 : Shape := ⟨2, ![512, 512]⟩

abbrev nBuf : Space → Nat
  | .hbm => 5
  | .vmem => 14
  | .smem => 2
  | _ => 0

abbrev bufTy : (tb : Table) → Fin (tcTables nBuf tb) → BufTy
  | .hbm, ⟨0, _⟩ => ⟨S50688x512, .i32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S50688x1024, .bf16⟩
  | .local _ .vmem, ⟨0, _⟩ => ⟨S2304x512, .i32⟩
  | .local _ .vmem, ⟨1, _⟩ => ⟨S2304x512, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S2304x1024, .bf16⟩
  | .local _ .vmem, ⟨9, _⟩ => ⟨S2304x1024, .bf16⟩
  | .local _ .vmem, ⟨10, _⟩ => ⟨S2304x1024, .f32⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .smem, ⟨0, _⟩ => ⟨S22, .i32⟩
  | .local _ .smem, ⟨1, _⟩ => ⟨S22, .i32⟩
  | _, _ => ⟨S50688x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![22, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_30 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v61 : BitVec 32 := Scalar.subi v18 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_32 : BitVec 32 := 1#32
  ⟨c0_i32_30, v65, c1_i32_32⟩
def k0_cond5 (v1 : BitVec 32) : BitVec 1 :=
  let c0_i32_9 : BitVec 32 := 0#32
  let v31 : BitVec 1 := Scalar.cmpi .sgt v1 c0_i32_9
  let c9_i32_10 : BitVec 32 := 9#32
  let v32 : BitVec 1 := Scalar.cmpi .ne v1 c9_i32_10
  let v33 : BitVec 1 := Scalar.andi v31 v32
  let c8_i32_11 : BitVec 32 := 8#32
  let v34 : BitVec 1 := Scalar.cmpi .ne v1 c8_i32_11
  let v35 : BitVec 1 := Scalar.andi v33 v34
  let c7_i32_12 : BitVec 32 := 7#32
  let v36 : BitVec 1 := Scalar.cmpi .ne v1 c7_i32_12
  let v37 : BitVec 1 := Scalar.andi v35 v36
  let v38 : BitVec 32 := Scalar.extui v37
  let c0_i32_13 : BitVec 32 := 0#32
  let v39 : BitVec 1 := Scalar.cmpi .ne v38 c0_i32_13
  v39

def k0_mult1 (v1 : BitVec 32) (k0_t1 : Fin (k0_t1_loop v1).trips) : BitVec 32 :=
  let c0_i32_30 : BitVec 32 := 0#32
  let c1_i32_32 : BitVec 32 := 1#32
  let arg13 : BitVec 32 := Scf.iv c0_i32_30 c1_i32_32 k0_t1
  let c1024_i32_39 : BitVec 32 := 1024#32
  let v75 : BitVec 32 := Scalar.muli arg13 c1024_i32_39
  v75
def k0_off2 (v1 : BitVec 32) (k0_t1 : Fin (k0_t1_loop v1).trips) : Fin 2 → Nat :=
  let c0_i32_30 : BitVec 32 := 0#32
  let c1_i32_32 : BitVec 32 := 1#32
  let arg13 : BitVec 32 := Scf.iv c0_i32_30 c1_i32_32 k0_t1
  let c1024_i32_39 : BitVec 32 := 1024#32
  let v75 : BitVec 32 := Scalar.muli arg13 c1024_i32_39
  let v76 : BitVec 32 := v75
  let v80 : Index := Scalar.indexCast v76
  let c0_46 : Index := 0#32
  ![v80.toNat, 0]
def k0_off3 (v1 : BitVec 32) (k0_t1 : Fin (k0_t1_loop v1).trips) : Fin 2 → Nat :=
  let c0_i32_30 : BitVec 32 := 0#32
  let c1_i32_32 : BitVec 32 := 1#32
  let arg13 : BitVec 32 := Scf.iv c0_i32_30 c1_i32_32 k0_t1
  let c1024_i32_39 : BitVec 32 := 1024#32
  let v75 : BitVec 32 := Scalar.muli arg13 c1024_i32_39
  let v76 : BitVec 32 := v75
  let v96 : Index := Scalar.indexCast v76
  let c0_48 : Index := 0#32
  ![v96.toNat, 0]
@[reducible] def k0_t2_loop (v1 : BitVec 32) : Scf.Loop 32 :=
  let c0_i32_30 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v61 : BitVec 32 := Scalar.subi v18 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let v62 : BitVec 32 := Scalar.addi c0_i32_30 v61
  let c1_i32_33 : BitVec 32 := 1#32
  ⟨v65, v62, c1_i32_33⟩
def k0_mult2 (v1 : BitVec 32) (k0_t2 : Fin (k0_t2_loop v1).trips) : BitVec 32 :=
  let c0_i32_30 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v61 : BitVec 32 := Scalar.subi v18 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg13 : BitVec 32 := Scf.iv v65 c1_i32_33 k0_t2
  let c1024_i32_39 : BitVec 32 := 1024#32
  let v75 : BitVec 32 := Scalar.muli arg13 c1024_i32_39
  v75
def k0_off4 (v1 : BitVec 32) (k0_t2 : Fin (k0_t2_loop v1).trips) : Fin 2 → Nat :=
  let c0_i32_30 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v61 : BitVec 32 := Scalar.subi v18 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg13 : BitVec 32 := Scf.iv v65 c1_i32_33 k0_t2
  let c1024_i32_39 : BitVec 32 := 1024#32
  let v75 : BitVec 32 := Scalar.muli arg13 c1024_i32_39
  let v76 : BitVec 32 := v75
  let v80 : Index := Scalar.indexCast v76
  let c0_46 : Index := 0#32
  ![v80.toNat, 0]
def k0_off5 (v1 : BitVec 32) (k0_t2 : Fin (k0_t2_loop v1).trips) : Fin 2 → Nat :=
  let c0_i32_30 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v61 : BitVec 32 := Scalar.subi v18 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg13 : BitVec 32 := Scf.iv v65 c1_i32_33 k0_t2
  let c1024_i32_39 : BitVec 32 := 1024#32
  let v75 : BitVec 32 := Scalar.muli arg13 c1024_i32_39
  let v76 : BitVec 32 := v75
  let v96 : Index := Scalar.indexCast v76
  let c0_48 : Index := 0#32
  ![v96.toNat, 0]
def k0_mult3 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m4_i32 : BitVec 32 := 4294967292#32
  let v76 : BitVec 32 := Scalar.andi v75 c_m4_i32
  let c256_i32 : BitVec 32 := 256#32
  let v77 : BitVec 32 := Scalar.muli v76 c256_i32
  let v78 : BitVec 32 := Scalar.addi v66 v77
  v78
def k0_cond6 (v1 : BitVec 32) : BitVec 1 :=
  let c2_i32 : BitVec 32 := 2#32
  let v67 : BitVec 32 := Scalar.andi v1 c2_i32
  let c0_i32_34 : BitVec 32 := 0#32
  let v68 : BitVec 1 := Scalar.cmpi .ne v67 c0_i32_34
  let v69 : BitVec 32 := Scalar.extui v68
  let c0_i32_35 : BitVec 32 := 0#32
  let v70 : BitVec 1 := Scalar.cmpi .ne v69 c0_i32_35
  v70

def k0_off6 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m4_i32 : BitVec 32 := 4294967292#32
  let v76 : BitVec 32 := Scalar.andi v75 c_m4_i32
  let c256_i32 : BitVec 32 := 256#32
  let v77 : BitVec 32 := Scalar.muli v76 c256_i32
  let v78 : BitVec 32 := Scalar.addi v66 v77
  let v79 : BitVec 32 := v78
  let v83 : Index := Scalar.indexCast v79
  let c0_45 : Index := 0#32
  ![v83.toNat, 0]
def k0_off7 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m4_i32 : BitVec 32 := 4294967292#32
  let v76 : BitVec 32 := Scalar.andi v75 c_m4_i32
  let c256_i32 : BitVec 32 := 256#32
  let v77 : BitVec 32 := Scalar.muli v76 c256_i32
  let v78 : BitVec 32 := Scalar.addi v66 v77
  let v79 : BitVec 32 := v78
  let v99 : Index := Scalar.indexCast v79
  let c0_47 : Index := 0#32
  ![v99.toNat, 0]
def k0_mult4 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m2_i32 : BitVec 32 := 4294967294#32
  let v76 : BitVec 32 := Scalar.andi v75 c_m2_i32
  let c256_i32 : BitVec 32 := 256#32
  let v77 : BitVec 32 := Scalar.muli v76 c256_i32
  let v78 : BitVec 32 := Scalar.addi v66 v77
  v78
def k0_cond7 (v1 : BitVec 32) : BitVec 1 :=
  let c1_i32_36 : BitVec 32 := 1#32
  let v71 : BitVec 32 := Scalar.andi v1 c1_i32_36
  let c0_i32_37 : BitVec 32 := 0#32
  let v72 : BitVec 1 := Scalar.cmpi .ne v71 c0_i32_37
  let v73 : BitVec 32 := Scalar.extui v72
  let c0_i32_38 : BitVec 32 := 0#32
  let v74 : BitVec 1 := Scalar.cmpi .ne v73 c0_i32_38
  v74

def k0_off8 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m2_i32 : BitVec 32 := 4294967294#32
  let v76 : BitVec 32 := Scalar.andi v75 c_m2_i32
  let c256_i32 : BitVec 32 := 256#32
  let v77 : BitVec 32 := Scalar.muli v76 c256_i32
  let v78 : BitVec 32 := Scalar.addi v66 v77
  let v79 : BitVec 32 := v78
  let v83 : Index := Scalar.indexCast v79
  let c0_45 : Index := 0#32
  ![v83.toNat, 0]
def k0_off9 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v66 : BitVec 32 := Scalar.muli v18 c1024_i32
  let c3_i32 : BitVec 32 := 3#32
  let v75 : BitVec 32 := Scalar.andi v1 c3_i32
  let c_m2_i32 : BitVec 32 := 4294967294#32
  let v76 : BitVec 32 := Scalar.andi v75 c_m2_i32
  let c256_i32 : BitVec 32 := 256#32
  let v77 : BitVec 32 := Scalar.muli v76 c256_i32
  let v78 : BitVec 32 := Scalar.addi v66 v77
  let v79 : BitVec 32 := v78
  let v99 : Index := Scalar.indexCast v79
  let c0_47 : Index := 0#32
  ![v99.toNat, 0]

def k0_chk1 (v1 : BitVec 32) : Prop :=
  (∀ (k0_h5 : k0_cond5 v1 = 1#1), (k0_t1_loop v1).OK) ∧
  (∀ k0_t1 : Fin (k0_t1_loop v1).trips, ∀ (k0_h5 : k0_cond5 v1 = 1#1), 1024 ∣ (k0_mult1 v1 k0_t1).toNat) ∧
  (∀ k0_t1 : Fin (k0_t1_loop v1).trips, ∀ (k0_h5 : k0_cond5 v1 = 1#1), ∀ a, (k0_off2 v1 k0_t1) a + S1024x512.size a ≤ S2304x512.size a) ∧
  (∀ k0_t1 : Fin (k0_t1_loop v1).trips, ∀ (k0_h5 : k0_cond5 v1 = 1#1), ∀ a, (k0_off3 v1 k0_t1) a + S1024x1024.size a ≤ S2304x1024.size a) ∧
  (∀ (k0_h5 : k0_cond5 v1 = 1#1), (k0_t2_loop v1).OK) ∧
  (∀ k0_t2 : Fin (k0_t2_loop v1).trips, ∀ (k0_h5 : k0_cond5 v1 = 1#1), 1024 ∣ (k0_mult2 v1 k0_t2).toNat) ∧
  (∀ k0_t2 : Fin (k0_t2_loop v1).trips, ∀ (k0_h5 : k0_cond5 v1 = 1#1), ∀ a, (k0_off4 v1 k0_t2) a + S1024x512.size a ≤ S2304x512.size a) ∧
  (∀ k0_t2 : Fin (k0_t2_loop v1).trips, ∀ (k0_h5 : k0_cond5 v1 = 1#1), ∀ a, (k0_off5 v1 k0_t2) a + S1024x1024.size a ≤ S2304x1024.size a) ∧
  (∀ (k0_h5 : k0_cond5 v1 = 1#1), ∀ (k0_h6 : k0_cond6 v1 = 1#1), 256 ∣ (k0_mult3 v1).toNat) ∧
  (∀ (k0_h5 : k0_cond5 v1 = 1#1), ∀ (k0_h6 : k0_cond6 v1 = 1#1), ∀ a, (k0_off6 v1) a + S512x512.size a ≤ S2304x512.size a) ∧
  (∀ (k0_h5 : k0_cond5 v1 = 1#1), ∀ (k0_h6 : k0_cond6 v1 = 1#1), ∀ a, (k0_off7 v1) a + S512x1024.size a ≤ S2304x1024.size a) ∧
  (∀ (k0_h5 : k0_cond5 v1 = 1#1), ∀ (k0_h7 : k0_cond7 v1 = 1#1), 256 ∣ (k0_mult4 v1).toNat) ∧
  (∀ (k0_h5 : k0_cond5 v1 = 1#1), ∀ (k0_h7 : k0_cond7 v1 = 1#1), ∀ a, (k0_off8 v1) a + S256x512.size a ≤ S2304x512.size a) ∧
  (∀ (k0_h5 : k0_cond5 v1 = 1#1), ∀ (k0_h7 : k0_cond7 v1 = 1#1), ∀ a, (k0_off9 v1) a + S256x1024.size a ≤ S2304x1024.size a)
theorem k0_t1_ok : ∀ (v1 : BitVec 32) (k0_hw1 : k0_chk1 v1), ∀ (k0_h5 : k0_cond5 v1 = 1#1), (k0_t1_loop v1).OK := fun v1 k0_hw1 k0_h5 => k0_hw1.1 k0_h5
theorem k0_mult1_dvd : ∀ (v1 : BitVec 32) (k0_hw1 : k0_chk1 v1) (k0_t1 : Fin (k0_t1_loop v1).trips), ∀ (k0_h5 : k0_cond5 v1 = 1#1), 1024 ∣ (k0_mult1 v1 k0_t1).toNat := fun v1 k0_hw1 k0_t1 k0_h5 => k0_hw1.2.1 k0_t1 k0_h5
theorem k0_off2_inb : ∀ (v1 : BitVec 32) (k0_hw1 : k0_chk1 v1) (k0_t1 : Fin (k0_t1_loop v1).trips), ∀ (k0_h5 : k0_cond5 v1 = 1#1), ∀ a, (k0_off2 v1 k0_t1) a + S1024x512.size a ≤ S2304x512.size a := fun v1 k0_hw1 k0_t1 k0_h5 => k0_hw1.2.2.1 k0_t1 k0_h5
theorem k0_off3_inb : ∀ (v1 : BitVec 32) (k0_hw1 : k0_chk1 v1) (k0_t1 : Fin (k0_t1_loop v1).trips), ∀ (k0_h5 : k0_cond5 v1 = 1#1), ∀ a, (k0_off3 v1 k0_t1) a + S1024x1024.size a ≤ S2304x1024.size a := fun v1 k0_hw1 k0_t1 k0_h5 => k0_hw1.2.2.2.1 k0_t1 k0_h5
theorem k0_t2_ok : ∀ (v1 : BitVec 32) (k0_hw1 : k0_chk1 v1), ∀ (k0_h5 : k0_cond5 v1 = 1#1), (k0_t2_loop v1).OK := fun v1 k0_hw1 k0_h5 => k0_hw1.2.2.2.2.1 k0_h5
theorem k0_mult2_dvd : ∀ (v1 : BitVec 32) (k0_hw1 : k0_chk1 v1) (k0_t2 : Fin (k0_t2_loop v1).trips), ∀ (k0_h5 : k0_cond5 v1 = 1#1), 1024 ∣ (k0_mult2 v1 k0_t2).toNat := fun v1 k0_hw1 k0_t2 k0_h5 => k0_hw1.2.2.2.2.2.1 k0_t2 k0_h5
theorem k0_off4_inb : ∀ (v1 : BitVec 32) (k0_hw1 : k0_chk1 v1) (k0_t2 : Fin (k0_t2_loop v1).trips), ∀ (k0_h5 : k0_cond5 v1 = 1#1), ∀ a, (k0_off4 v1 k0_t2) a + S1024x512.size a ≤ S2304x512.size a := fun v1 k0_hw1 k0_t2 k0_h5 => k0_hw1.2.2.2.2.2.2.1 k0_t2 k0_h5
theorem k0_off5_inb : ∀ (v1 : BitVec 32) (k0_hw1 : k0_chk1 v1) (k0_t2 : Fin (k0_t2_loop v1).trips), ∀ (k0_h5 : k0_cond5 v1 = 1#1), ∀ a, (k0_off5 v1 k0_t2) a + S1024x1024.size a ≤ S2304x1024.size a := fun v1 k0_hw1 k0_t2 k0_h5 => k0_hw1.2.2.2.2.2.2.2.1 k0_t2 k0_h5
theorem k0_mult3_dvd : ∀ (v1 : BitVec 32) (k0_hw1 : k0_chk1 v1), ∀ (k0_h5 : k0_cond5 v1 = 1#1), ∀ (k0_h6 : k0_cond6 v1 = 1#1), 256 ∣ (k0_mult3 v1).toNat := fun v1 k0_hw1 k0_h5 k0_h6 => k0_hw1.2.2.2.2.2.2.2.2.1 k0_h5 k0_h6
theorem k0_off6_inb : ∀ (v1 : BitVec 32) (k0_hw1 : k0_chk1 v1), ∀ (k0_h5 : k0_cond5 v1 = 1#1), ∀ (k0_h6 : k0_cond6 v1 = 1#1), ∀ a, (k0_off6 v1) a + S512x512.size a ≤ S2304x512.size a := fun v1 k0_hw1 k0_h5 k0_h6 => k0_hw1.2.2.2.2.2.2.2.2.2.1 k0_h5 k0_h6
theorem k0_off7_inb : ∀ (v1 : BitVec 32) (k0_hw1 : k0_chk1 v1), ∀ (k0_h5 : k0_cond5 v1 = 1#1), ∀ (k0_h6 : k0_cond6 v1 = 1#1), ∀ a, (k0_off7 v1) a + S512x1024.size a ≤ S2304x1024.size a := fun v1 k0_hw1 k0_h5 k0_h6 => k0_hw1.2.2.2.2.2.2.2.2.2.2.1 k0_h5 k0_h6
theorem k0_mult4_dvd : ∀ (v1 : BitVec 32) (k0_hw1 : k0_chk1 v1), ∀ (k0_h5 : k0_cond5 v1 = 1#1), ∀ (k0_h7 : k0_cond7 v1 = 1#1), 256 ∣ (k0_mult4 v1).toNat := fun v1 k0_hw1 k0_h5 k0_h7 => k0_hw1.2.2.2.2.2.2.2.2.2.2.2.1 k0_h5 k0_h7
theorem k0_off8_inb : ∀ (v1 : BitVec 32) (k0_hw1 : k0_chk1 v1), ∀ (k0_h5 : k0_cond5 v1 = 1#1), ∀ (k0_h7 : k0_cond7 v1 = 1#1), ∀ a, (k0_off8 v1) a + S256x512.size a ≤ S2304x512.size a := fun v1 k0_hw1 k0_h5 k0_h7 => k0_hw1.2.2.2.2.2.2.2.2.2.2.2.2.1 k0_h5 k0_h7
theorem k0_off9_inb : ∀ (v1 : BitVec 32) (k0_hw1 : k0_chk1 v1), ∀ (k0_h5 : k0_cond5 v1 = 1#1), ∀ (k0_h7 : k0_cond7 v1 = 1#1), ∀ a, (k0_off9 v1) a + S256x1024.size a ≤ S2304x1024.size a := fun v1 k0_hw1 k0_h5 k0_h7 => k0_hw1.2.2.2.2.2.2.2.2.2.2.2.2.2 k0_h5 k0_h7

def k0_cond8 (i : grid0.Coords) : BitVec 1 :=
  let arg1 : BitVec 32 := BitVec.ofNat 32 (i 1).val
  let c6_i32 : BitVec 32 := 6#32
  let v40 : BitVec 1 := Scalar.cmpi .eq arg1 c6_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S22.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S22) ![v0.toNat] S1.size (k0_off1_inb i)) numel1_S1
  let v2 : Index := Scalar.indexCast arg0
  let v3 : BitVec 32 := pf.at 1 (Rect.unit (s := S22) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S22.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S22) ![v0.toNat] S1.size (k0_off1_inb i)) numel1_S1
  let v2 : Index := Scalar.indexCast arg0
  let v3 : BitVec 32 := pf.at 1 (Rect.unit (s := S22) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S22.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S22) ![v0.toNat] S1.size (k0_off1_inb i)) numel1_S1
  let v2 : Index := Scalar.indexCast arg0
  let v3 : BitVec 32 := pf.at 1 (Rect.unit (s := S22) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2304x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S50688x512 : Shape := ⟨2, ![50688, 512]⟩
abbrev S22 : Shape := ⟨1, ![22]⟩
abbrev S8x1024x3584 : Shape := ⟨3, ![8, 1024, 3584]⟩
abbrev S8x3584x1024 : Shape := ⟨3, ![8, 3584, 1024]⟩
abbrev S_ : Shape := ⟨0, ![]⟩
abbrev S50688x1024 : Shape := ⟨2, ![50688, 1024]⟩
abbrev S50688 : Shape := ⟨1, ![50688]⟩
abbrev S50688x1 : Shape := ⟨2, ![50688, 1]⟩
abbrev S8 : Shape := ⟨1, ![8]⟩
abbrev S1x8 : Shape := ⟨2, ![1, 8]⟩
abbrev S50688x8 : Shape := ⟨2, ![50688, 8]⟩
abbrev S1x1024x3584 : Shape := ⟨3, ![1, 1024, 3584]⟩
abbrev S1024x3584 : Shape := ⟨2, ![1024, 3584]⟩
abbrev S50688x3584 : Shape := ⟨2, ![50688, 3584]⟩
abbrev S1x3584x1024 : Shape := ⟨3, ![1, 3584, 1024]⟩
abbrev S3584x1024 : Shape := ⟨2, ![3584, 1024]⟩

abbrev nBuf : Space → Nat
  | .hbm => 275
  | .vmem => 0
  | .smem => 0
  | _ => 0

abbrev hbmTy0_0 (i : Nat) : BufTy := match i % 128 with
  | 0 => ⟨S50688x512, .i32⟩
  | 1 => ⟨S22, .i32⟩
  | 2 => ⟨S22, .i32⟩
  | 3 => ⟨S8x1024x3584, .f32⟩
  | 4 => ⟨S8x1024x3584, .f32⟩
  | 5 => ⟨S8x3584x1024, .f32⟩
  | 6 => ⟨S_, .i32⟩
  | 7 => ⟨S50688x512, .i32⟩
  | 8 => ⟨S50688x512, .i32⟩
  | 9 => ⟨S50688x512, .f32⟩
  | 10 => ⟨S_, .i32⟩
  | 11 => ⟨S50688x512, .i32⟩
  | 12 => ⟨S50688x512, .i32⟩
  | 13 => ⟨S50688x512, .f32⟩
  | 14 => ⟨S50688x1024, .f32⟩
  | 15 => ⟨S50688, .i32⟩
  | 16 => ⟨S_, .i32⟩
  | 17 => ⟨S_, .i32⟩
  | 18 => ⟨S50688, .i32⟩
  | 19 => ⟨S50688, .i32⟩
  | 20 => ⟨S50688, .i32⟩
  | 21 => ⟨S_, .i32⟩
  | 22 => ⟨S50688, .i32⟩
  | 23 => ⟨S50688, .i1⟩
  | 24 => ⟨S50688, .i32⟩
  | 25 => ⟨S50688, .i32⟩
  | 26 => ⟨S_, .i32⟩
  | 27 => ⟨S50688, .i32⟩
  | 28 => ⟨S50688, .i1⟩
  | 29 => ⟨S50688, .i1⟩
  | 30 => ⟨S_, .i32⟩
  | 31 => ⟨S50688, .i32⟩
  | 32 => ⟨S50688, .i32⟩
  | 33 => ⟨S50688, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S50688, .i32⟩
  | 41 => ⟨S50688, .i32⟩
  | 42 => ⟨S_, .i32⟩
  | 43 => ⟨S50688, .i32⟩
  | 44 => ⟨S50688, .i1⟩
  | 45 => ⟨S_, .i32⟩
  | 46 => ⟨S50688, .i32⟩
  | 47 => ⟨S50688, .i1⟩
  | 48 => ⟨S_, .i32⟩
  | 49 => ⟨S_, .i1⟩
  | 50 => ⟨S50688, .i1⟩
  | 51 => ⟨S50688, .i1⟩
  | 52 => ⟨S50688, .i1⟩
  | 53 => ⟨S50688, .i32⟩
  | 54 => ⟨S50688, .i32⟩
  | 55 => ⟨S50688, .i32⟩
  | 56 => ⟨S_, .i32⟩
  | 57 => ⟨S50688, .i32⟩
  | 58 => ⟨S50688, .i1⟩
  | 59 => ⟨S_, .i32⟩
  | 60 => ⟨S50688, .i32⟩
  | 61 => ⟨S50688, .i32⟩
  | 62 => ⟨S50688, .i32⟩
  | 63 => ⟨S50688x1, .i32⟩
  | 64 => ⟨S50688, .i32⟩
  | 65 => ⟨S_, .i32⟩
  | 66 => ⟨S50688, .i32⟩
  | 67 => ⟨S50688, .i32⟩
  | 68 => ⟨S50688, .i1⟩
  | 69 => ⟨S_, .i32⟩
  | 70 => ⟨S50688, .i32⟩
  | 71 => ⟨S50688, .i1⟩
  | 72 => ⟨S_, .i32⟩
  | 73 => ⟨S50688, .i32⟩
  | 74 => ⟨S50688, .i32⟩
  | 75 => ⟨S50688, .i32⟩
  | 76 => ⟨S50688x1, .i32⟩
  | 77 => ⟨S50688, .i32⟩
  | 78 => ⟨S50688x1, .i32⟩
  | 79 => ⟨S8, .i32⟩
  | 80 => ⟨S1x8, .i32⟩
  | 81 => ⟨S50688x8, .i32⟩
  | 82 => ⟨S50688x8, .i32⟩
  | 83 => ⟨S50688x8, .i1⟩
  | 84 => ⟨S50688x1, .i1⟩
  | 85 => ⟨S50688x8, .i1⟩
  | 86 => ⟨S50688x8, .i1⟩
  | 87 => ⟨S50688x8, .f32⟩
  | 88 => ⟨S_, .f32⟩
  | 89 => ⟨S50688x1024, .f32⟩
  | 90 => ⟨S50688x1, .f32⟩
  | 91 => ⟨S1x1024x3584, .f32⟩
  | 92 => ⟨S1024x3584, .f32⟩
  | 93 => ⟨S50688x3584, .f32⟩
  | 94 => ⟨S50688x3584, .f32⟩
  | 95 => ⟨S50688x3584, .f32⟩
  | 96 => ⟨S_, .f32⟩
  | 97 => ⟨S50688x3584, .f32⟩
  | 98 => ⟨S50688x3584, .f32⟩
  | 99 => ⟨S_, .f32⟩
  | 100 => ⟨S50688x3584, .f32⟩
  | 101 => ⟨S50688x3584, .f32⟩
  | 102 => ⟨S50688x3584, .f32⟩
  | 103 => ⟨S1x1024x3584, .f32⟩
  | 104 => ⟨S1024x3584, .f32⟩
  | 105 => ⟨S50688x3584, .f32⟩
  | 106 => ⟨S50688x3584, .f32⟩
  | 107 => ⟨S1x3584x1024, .f32⟩
  | 108 => ⟨S3584x1024, .f32⟩
  | 109 => ⟨S50688x1024, .f32⟩
  | 110 => ⟨S50688x1024, .f32⟩
  | 111 => ⟨S50688x1024, .f32⟩
  | 112 => ⟨S50688x1024, .f32⟩
  | 113 => ⟨S50688x1, .f32⟩
  | 114 => ⟨S1x1024x3584, .f32⟩
  | 115 => ⟨S1024x3584, .f32⟩
  | 116 => ⟨S50688x3584, .f32⟩
  | 117 => ⟨S50688x3584, .f32⟩
  | 118 => ⟨S50688x3584, .f32⟩
  | 119 => ⟨S_, .f32⟩
  | 120 => ⟨S50688x3584, .f32⟩
  | 121 => ⟨S50688x3584, .f32⟩
  | 122 => ⟨S_, .f32⟩
  | 123 => ⟨S50688x3584, .f32⟩
  | 124 => ⟨S50688x3584, .f32⟩
  | 125 => ⟨S50688x3584, .f32⟩
  | 126 => ⟨S1x1024x3584, .f32⟩
  | 127 => ⟨S1024x3584, .f32⟩
  | _ => ⟨S50688x512, .i32⟩

abbrev hbmTy0_1 (i : Nat) : BufTy := match i % 128 with
  | 0 => ⟨S50688x3584, .f32⟩
  | 1 => ⟨S50688x3584, .f32⟩
  | 2 => ⟨S1x3584x1024, .f32⟩
  | 3 => ⟨S3584x1024, .f32⟩
  | 4 => ⟨S50688x1024, .f32⟩
  | 5 => ⟨S50688x1024, .f32⟩
  | 6 => ⟨S50688x1024, .f32⟩
  | 7 => ⟨S50688x1024, .f32⟩
  | 8 => ⟨S50688x1, .f32⟩
  | 9 => ⟨S1x1024x3584, .f32⟩
  | 10 => ⟨S1024x3584, .f32⟩
  | 11 => ⟨S50688x3584, .f32⟩
  | 12 => ⟨S50688x3584, .f32⟩
  | 13 => ⟨S50688x3584, .f32⟩
  | 14 => ⟨S_, .f32⟩
  | 15 => ⟨S50688x3584, .f32⟩
  | 16 => ⟨S50688x3584, .f32⟩
  | 17 => ⟨S_, .f32⟩
  | 18 => ⟨S50688x3584, .f32⟩
  | 19 => ⟨S50688x3584, .f32⟩
  | 20 => ⟨S50688x3584, .f32⟩
  | 21 => ⟨S1x1024x3584, .f32⟩
  | 22 => ⟨S1024x3584, .f32⟩
  | 23 => ⟨S50688x3584, .f32⟩
  | 24 => ⟨S50688x3584, .f32⟩
  | 25 => ⟨S1x3584x1024, .f32⟩
  | 26 => ⟨S3584x1024, .f32⟩
  | 27 => ⟨S50688x1024, .f32⟩
  | 28 => ⟨S50688x1024, .f32⟩
  | 29 => ⟨S50688x1024, .f32⟩
  | 30 => ⟨S50688x1024, .f32⟩
  | 31 => ⟨S50688x1, .f32⟩
  | 32 => ⟨S1x1024x3584, .f32⟩
  | 33 => ⟨S1024x3584, .f32⟩
  | 34 => ⟨S50688x3584, .f32⟩
  | 35 => ⟨S50688x3584, .f32⟩
  | 36 => ⟨S50688x3584, .f32⟩
  | 37 => ⟨S_, .f32⟩
  | 38 => ⟨S50688x3584, .f32⟩
  | 39 => ⟨S50688x3584, .f32⟩
  | 40 => ⟨S_, .f32⟩
  | 41 => ⟨S50688x3584, .f32⟩
  | 42 => ⟨S50688x3584, .f32⟩
  | 43 => ⟨S50688x3584, .f32⟩
  | 44 => ⟨S1x1024x3584, .f32⟩
  | 45 => ⟨S1024x3584, .f32⟩
  | 46 => ⟨S50688x3584, .f32⟩
  | 47 => ⟨S50688x3584, .f32⟩
  | 48 => ⟨S1x3584x1024, .f32⟩
  | 49 => ⟨S3584x1024, .f32⟩
  | 50 => ⟨S50688x1024, .f32⟩
  | 51 => ⟨S50688x1024, .f32⟩
  | 52 => ⟨S50688x1024, .f32⟩
  | 53 => ⟨S50688x1024, .f32⟩
  | 54 => ⟨S50688x1, .f32⟩
  | 55 => ⟨S1x1024x3584, .f32⟩
  | 56 => ⟨S1024x3584, .f32⟩
  | 57 => ⟨S50688x3584, .f32⟩
  | 58 => ⟨S50688x3584, .f32⟩
  | 59 => ⟨S50688x3584, .f32⟩
  | 60 => ⟨S_, .f32⟩
  | 61 => ⟨S50688x3584, .f32⟩
  | 62 => ⟨S50688x3584, .f32⟩
  | 63 => ⟨S_, .f32⟩
  | 64 => ⟨S50688x3584, .f32⟩
  | 65 => ⟨S50688x3584, .f32⟩
  | 66 => ⟨S50688x3584, .f32⟩
  | 67 => ⟨S1x1024x3584, .f32⟩
  | 68 => ⟨S1024x3584, .f32⟩
  | 69 => ⟨S50688x3584, .f32⟩
  | 70 => ⟨S50688x3584, .f32⟩
  | 71 => ⟨S1x3584x1024, .f32⟩
  | 72 => ⟨S3584x1024, .f32⟩
  | 73 => ⟨S50688x1024, .f32⟩
  | 74 => ⟨S50688x1024, .f32⟩
  | 75 => ⟨S50688x1024, .f32⟩
  | 76 => ⟨S50688x1024, .f32⟩
  | 77 => ⟨S50688x1, .f32⟩
  | 78 => ⟨S1x1024x3584, .f32⟩
  | 79 => ⟨S1024x3584, .f32⟩
  | 80 => ⟨S50688x3584, .f32⟩
  | 81 => ⟨S50688x3584, .f32⟩
  | 82 => ⟨S50688x3584, .f32⟩
  | 83 => ⟨S_, .f32⟩
  | 84 => ⟨S50688x3584, .f32⟩
  | 85 => ⟨S50688x3584, .f32⟩
  | 86 => ⟨S_, .f32⟩
  | 87 => ⟨S50688x3584, .f32⟩
  | 88 => ⟨S50688x3584, .f32⟩
  | 89 => ⟨S50688x3584, .f32⟩
  | 90 => ⟨S1x1024x3584, .f32⟩
  | 91 => ⟨S1024x3584, .f32⟩
  | 92 => ⟨S50688x3584, .f32⟩
  | 93 => ⟨S50688x3584, .f32⟩
  | 94 => ⟨S1x3584x1024, .f32⟩
  | 95 => ⟨S3584x1024, .f32⟩
  | 96 => ⟨S50688x1024, .f32⟩
  | 97 => ⟨S50688x1024, .f32⟩
  | 98 => ⟨S50688x1024, .f32⟩
  | 99 => ⟨S50688x1024, .f32⟩
  | 100 => ⟨S50688x1, .f32⟩
  | 101 => ⟨S1x1024x3584, .f32⟩
  | 102 => ⟨S1024x3584, .f32⟩
  | 103 => ⟨S50688x3584, .f32⟩
  | 104 => ⟨S50688x3584, .f32⟩
  | 105 => ⟨S50688x3584, .f32⟩
  | 106 => ⟨S_, .f32⟩
  | 107 => ⟨S50688x3584, .f32⟩
  | 108 => ⟨S50688x3584, .f32⟩
  | 109 => ⟨S_, .f32⟩
  | 110 => ⟨S50688x3584, .f32⟩
  | 111 => ⟨S50688x3584, .f32⟩
  | 112 => ⟨S50688x3584, .f32⟩
  | 113 => ⟨S1x1024x3584, .f32⟩
  | 114 => ⟨S1024x3584, .f32⟩
  | 115 => ⟨S50688x3584, .f32⟩
  | 116 => ⟨S50688x3584, .f32⟩
  | 117 => ⟨S1x3584x1024, .f32⟩
  | 118 => ⟨S3584x1024, .f32⟩
  | 119 => ⟨S50688x1024, .f32⟩
  | 120 => ⟨S50688x1024, .f32⟩
  | 121 => ⟨S50688x1024, .f32⟩
  | 122 => ⟨S50688x1024, .f32⟩
  | 123 => ⟨S50688x1, .f32⟩
  | 124 => ⟨S1x1024x3584, .f32⟩
  | 125 => ⟨S1024x3584, .f32⟩
  | 126 => ⟨S50688x3584, .f32⟩
  | 127 => ⟨S50688x3584, .f32⟩
  | _ => ⟨S50688x512, .i32⟩

abbrev hbmTy0_2 (i : Nat) : BufTy := match i % 128 with
  | 0 => ⟨S50688x3584, .f32⟩
  | 1 => ⟨S_, .f32⟩
  | 2 => ⟨S50688x3584, .f32⟩
  | 3 => ⟨S50688x3584, .f32⟩
  | 4 => ⟨S_, .f32⟩
  | 5 => ⟨S50688x3584, .f32⟩
  | 6 => ⟨S50688x3584, .f32⟩
  | 7 => ⟨S50688x3584, .f32⟩
  | 8 => ⟨S1x1024x3584, .f32⟩
  | 9 => ⟨S1024x3584, .f32⟩
  | 10 => ⟨S50688x3584, .f32⟩
  | 11 => ⟨S50688x3584, .f32⟩
  | 12 => ⟨S1x3584x1024, .f32⟩
  | 13 => ⟨S3584x1024, .f32⟩
  | 14 => ⟨S50688x1024, .f32⟩
  | 15 => ⟨S50688x1024, .f32⟩
  | 16 => ⟨S50688x1024, .f32⟩
  | 17 => ⟨S50688x1024, .f32⟩
  | 18 => ⟨S50688x1024, .bf16⟩
  | _ => ⟨S50688x512, .i32⟩

abbrev hbmTy (i : Nat) : BufTy := match i / 128 with
  | 0 => hbmTy0_0 i
  | 1 => hbmTy0_1 i
  | 2 => hbmTy0_2 i
  | _ => ⟨S50688x512, .i32⟩

abbrev bufTy : (tb : Table) → Fin (tcTables nBuf tb) → BufTy
  | .hbm, ⟨i, _⟩ => hbmTy i
  | _, _ => ⟨S50688x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_c_2 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_c_4 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_c_6 : Ref sig .tc := ⟨.hbm, 69, rfl⟩
abbrev main_v20 : Ref sig .tc := ⟨.hbm, 70, rfl⟩
abbrev main_v21 : Ref sig .tc := ⟨.hbm, 71, rfl⟩
abbrev main_c_7 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_call4_v0 : Ref sig .tc := ⟨.hbm, 140, rfl⟩
abbrev main_call4_v1 : Ref sig .tc := ⟨.hbm, 141, rfl⟩
abbrev main_call4_cst : Ref sig .tc := ⟨.hbm, 142, rfl⟩
abbrev main_call4_v2 : Ref sig .tc := ⟨.hbm, 143, rfl⟩
abbrev main_call4_v3 : Ref sig .tc := ⟨.hbm, 144, rfl⟩
abbrev main_call4_cst_0 : Ref sig .tc := ⟨.hbm, 145, rfl⟩
abbrev main_call4_v4 : Ref sig .tc := ⟨.hbm, 146, rfl⟩
abbrev main_call4_v5 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_call6_v0 : Ref sig .tc := ⟨.hbm, 186, rfl⟩
abbrev main_call6_v1 : Ref sig .tc := ⟨.hbm, 187, rfl⟩
abbrev main_call6_cst : Ref sig .tc := ⟨.hbm, 188, rfl⟩
abbrev main_call6_v2 : Ref sig .tc := ⟨.hbm, 189, rfl⟩
abbrev main_call6_v3 : Ref sig .tc := ⟨.hbm, 190, rfl⟩
abbrev main_call6_cst_0 : Ref sig .tc := ⟨.hbm, 191, rfl⟩
abbrev main_call6_v4 : Ref sig .tc := ⟨.hbm, 192, rfl⟩
abbrev main_call6_v5 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_call7_v0 : Ref sig .tc := ⟨.hbm, 209, rfl⟩
abbrev main_call7_v1 : Ref sig .tc := ⟨.hbm, 210, rfl⟩
abbrev main_call7_cst : Ref sig .tc := ⟨.hbm, 211, rfl⟩
abbrev main_call7_v2 : Ref sig .tc := ⟨.hbm, 212, rfl⟩
abbrev main_call7_v3 : Ref sig .tc := ⟨.hbm, 213, rfl⟩
abbrev main_call7_cst_0 : Ref sig .tc := ⟨.hbm, 214, rfl⟩
abbrev main_call7_v4 : Ref sig .tc := ⟨.hbm, 215, rfl⟩
abbrev main_call7_v5 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_call8_v0 : Ref sig .tc := ⟨.hbm, 232, rfl⟩
abbrev main_call8_v1 : Ref sig .tc := ⟨.hbm, 233, rfl⟩
abbrev main_call8_cst : Ref sig .tc := ⟨.hbm, 234, rfl⟩
abbrev main_call8_v2 : Ref sig .tc := ⟨.hbm, 235, rfl⟩
abbrev main_call8_v3 : Ref sig .tc := ⟨.hbm, 236, rfl⟩
abbrev main_call8_cst_0 : Ref sig .tc := ⟨.hbm, 237, rfl⟩
abbrev main_call8_v4 : Ref sig .tc := ⟨.hbm, 238, rfl⟩
abbrev main_call8_v5 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_call9_v0 : Ref sig .tc := ⟨.hbm, 255, rfl⟩
abbrev main_call9_v1 : Ref sig .tc := ⟨.hbm, 256, rfl⟩
abbrev main_call9_cst : Ref sig .tc := ⟨.hbm, 257, rfl⟩
abbrev main_call9_v2 : Ref sig .tc := ⟨.hbm, 258, rfl⟩
abbrev main_call9_v3 : Ref sig .tc := ⟨.hbm, 259, rfl⟩
abbrev main_call9_cst_0 : Ref sig .tc := ⟨.hbm, 260, rfl⟩
abbrev main_call9_v4 : Ref sig .tc := ⟨.hbm, 261, rfl⟩
abbrev main_call9_v5 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩

abbrev nD : Nat := 1
abbrev τ : Topo := Topo.v7x

variable {F : FTy → Type} [FloatOps F]
-- ==== Proof.Steps.lean ====
/- THE ATTENTION'S PROGRAM POINT AS ONE FAMILY OF STEPS. A point of the attention (one batch, four heads) writes its
   output in sixteen row tiles. The printed body computes tile `m` from the queries of tile `m`, five rows tiles of the
   padded keys and values and the bias; it is the same computation in each, up to the mask of the first four. `tile`
   below is that computation at a variable `m`, and `outs_eq` says that the point writes exactly the sixteen of them. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Cert.KernelIdeal Cert.KernelIdeal.Gen

variable {F : FTy → Type} [FloatOps F] [Named F]

/-- A point's keys (or values) with 512 rows of zeros in front. -/
def padded (x : Vec F S1x2048x256 .bf16) : Vec F S2560x256 .bf16 :=
  View.canon [⟨Rect.unit ![512, 0] S2048x256.size inb_S2560x256_S2048x256_512_0, k1_pay3 x⟩,
    ⟨Rect.unit ![0, 0] S512x256.size inb_S2560x256_S512x256_0_0, k1_pay2⟩]

theorem band_inb (m : Fin 16) : ∀ a, (![128 * m.val, 0] : Fin 2 → Nat) a + S640x256.size a ≤ S2560x256.size a := by
  have := m.isLt
  intro a
  match a with
  | ⟨0, _⟩ => show 128 * m.val + 640 ≤ 2560; omega
  | ⟨1, _⟩ => show 0 + 256 ≤ 256; omega

/-- The 640 padded rows tile `m` attends to. -/
def band (m : Fin 16) (x : Vec F S1x2048x256 .bf16) : Vec F S640x256 .bf16 :=
  View.ld (padded x) (Rect.unit ![128 * m.val, 0] S640x256.size (band_inb m))

theorem head_inb (m : Fin 16) : ∀ a, (![0, m.val, 0, 0] : Fin 4 → Nat) a + S1x1x256x128.size a ≤ S1x16x256x128.size a := by
  have := m.isLt
  intro a
  match a with
  | ⟨0, _⟩ => show 0 + 1 ≤ 1; omega
  | ⟨1, _⟩ => show m.val + 1 ≤ 16; omega
  | ⟨2, _⟩ => show 0 + 256 ≤ 256; omega
  | ⟨3, _⟩ => show 0 + 128 ≤ 128; omega

/-- The queries of tile `m`. -/
def queries (m : Fin 16) (x : Vec F S1x16x256x128 .bf16) : Vec F S1x1x256x128 .bf16 :=
  View.ld x (Rect.unit ![0, m.val, 0, 0] S1x1x256x128.size (head_inb m))

/-- The scores of tile `m` without the bias: padded keys against the four heads' queries, side by side. -/
def raw (q : Vec F S1x1x256x128 .bf16) (k : Vec F S640x256 .bf16) : FVec F S640x512 .f32 :=
  k1_pay10 k1_pay6 q k

/-- The scores with the bias. -/
def biased (q : Vec F S1x1x256x128 .bf16) (k : Vec F S640x256 .bf16) (b : Vec F S1x640x512 .f32) : FVec F S640x512 .f32 :=
  addf (raw q k) (shapeCast S640x512 b shapeCasts_S1x640x512_S640x512)

/-- The scores with the padding rows masked: in the first four tiles the rows before the first frame. -/
def scores (m : Fin 16) (q : Vec F S1x1x256x128 .bf16) (k : Vec F S640x256 .bf16) (b : Vec F S1x640x512 .f32) : FVec F S640x512 .f32 :=
  if m.val < 4 then
    select (cmpi .sge (iota .tc S640x512 32 [0] iota_S640x512_d0_w32) (broadcast S640x512 (BitVec.ofNat 32 (512 - 128 * m.val))))
      (biased q k b) (broadcast S640x512 (Named.named κ "mask" 0xF149F2CA#32))
  else biased q k b

/-- The softmax's numerators. -/
def numer (s : FVec F S640x512 .f32) : FVec F S640x512 .f32 :=
  exp (subf s (broadcastTo S640x512 (shapeCast S1x512
    (multiReduction .maximumf [0] S512 s 0xFF800000#32 reduces_S640x512_S512 (.inl rfl) rfl) shapeCasts_S512_S1x512) broadcasts_S1x512_S640x512))

/-- The softmax's denominators. -/
def denom (e : FVec F S640x512 .f32) : FVec F S1x512 .f32 :=
  shapeCast S1x512 (shapeCast S1x512 (multiReduction .add [0] S512 e 0x00000000#32 reduces_S640x512_S512 (.inl rfl) rfl) shapeCasts_S512_S1x512)
    shapeCasts_S1x512_S1x512

/-- What tile `m` of the output holds, from the point's four blocks. -/
def tile (m : Fin 16) (x0 : Vec F S1x16x256x128 .bf16) (x1 x2 : Vec F S1x2048x256 .bf16) (x3 : Vec F S1x640x512 .f32) : FVec F S1x128x256 .bf16 :=
  k1_pay20 (band m x2) (k1_pay14 (numer (scores m (queries m x0) (band m x1) x3)))
    (denom (numer (scores m (queries m x0) (band m x1) x3)))

theorem tile_inb (m : Fin 16) : ∀ a, (![0, 128 * m.val, 0] : Fin 3 → Nat) a + S1x128x256.size a ≤ S1x2048x256.size a := by
  have := m.isLt
  intro a
  match a with
  | ⟨0, _⟩ => show 0 + 1 ≤ 1; omega
  | ⟨1, _⟩ => show 128 * m.val + 128 ≤ 2048; omega
  | ⟨2, _⟩ => show 0 + 256 ≤ 256; omega

/-- Tile `m` as a piece of the output block. -/
def piece (x0 : Vec F S1x16x256x128 .bf16) (x1 x2 : Vec F S1x2048x256 .bf16) (x3 : Vec F S1x640x512 .f32) (m : Fin 16) :
    View.Piece (Elt F) S1x2048x256 .bf16 :=
  ⟨Rect.unit ![0, 128 * m.val, 0] S1x128x256.size (tile_inb m), tile m x0 x1 x2 x3⟩

variable (V : (c : Dev nD) → (b : Ref sig .tc) → Buf (Elt F) ((c : Thread nD τ).loc b))

theorem cons_congr {α : Type _} {a b : α} {l l' : List α} (h : a = b) (h' : l = l') : a :: l = b :: l' := by rw [h, h']

/-- Four blocks of 64 columns side by side. -/
def four64 (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

theorem four64_eq (a b c d : FVec F S128x64 .f32) (h) :
    concatenate S128x256 1 [⟨S128x64, a⟩, ⟨S128x64, b⟩, ⟨S128x64, c⟩, ⟨S128x64, d⟩] h = four64 a b c d := rfl

/-- Four blocks of 128 columns side by side. -/
def four128 (a b c d : FVec F S256x128 .bf16) : FVec F S256x512 .bf16 :=
  concatenate S256x512 1 [⟨S256x128, a⟩, ⟨S256x128, b⟩, ⟨S256x128, c⟩, ⟨S256x128, d⟩] concatenates_S256x128_S256x128_S256x128_S256x128_S256x512_d1

theorem four128_eq (a b c d : FVec F S256x128 .bf16) (h) :
    concatenate S256x512 1 [⟨S256x128, a⟩, ⟨S256x128, b⟩, ⟨S256x128, c⟩, ⟨S256x128, d⟩] h = four128 a b c d := rfl

set_option maxHeartbeats 4000000 in
/-- The point writes the sixteen tiles. -/
theorem outs_eq (c : Dev nD) (t : Fin cfg1.N) :
    outsAt1 V c t = View.canon (([15, 14, 13, 12, 11, 10, 9, 8, 7, 6, 5, 4, 3, 2, 1, 0] : List (Fin 16)).map
      (piece (iblk1 V c 0 t) (iblk1 V c 1 t) (iblk1 V c 2 t) (iblk1 V c 3 t))) := by
  unfold outsAt1
  frame_open
  simp (disch := decide) only [↓ four64_eq, ↓ four128_eq, ↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, View.readCov_eq_canon', (hs1_0 t).read_unread]
  generalize iblk1 V c 0 t = x0
  generalize iblk1 V c 1 t = x1
  generalize iblk1 V c 2 t = x2
  generalize iblk1 V c 3 t = x3
  simp only [List.map_cons, List.map_nil]
  refine congrArg View.canon ?_
  iterate 12
    refine cons_congr (by
      unfold_payloads
      rw [piece, tile, scores, if_neg (by decide)]
      unfold numer denom biased raw band queries padded
      unfold_payloads
      with_unfolding_all rfl) ?_
  iterate 4
    refine cons_congr (by
      unfold_payloads
      rw [piece, tile, scores, if_pos (by decide)]
      unfold numer denom biased raw band queries padded
      unfold_payloads
      with_unfolding_all rfl) ?_
  rfl

end Cert.KernelIdeal.Attn
-- ==== Proof.Tile.lean ====
/- A TILE, ELEMENT BY ELEMENT, at ideal numbers: every stage of `tile` read at an index. A score column is a head and a
   query (`col`), a column of the keys, values and output is a head and a feature (`feat`). The queries of the four heads
   stand block-diagonally, so the product over 256 features is the product over the head's own 64. -/
module

public import proofs.«01_k».proof.Proof.Steps
public import Idealize.ShloMosaic.Lib.Pointwise

@[expose] public section

set_option maxRecDepth 16384

noncomputable section

namespace Cert.KernelIdeal.Attn

open Idealize.ShloMosaic Idealize.ShloMosaic.Pointwise Cert.KernelIdeal Cert.KernelIdeal.Gen

/-- The score column of query `q` of head `h`. -/
def col (h : Fin 4) (q : Fin 128) : Fin 512 := ⟨h.val * 128 + q.val, by have := h.isLt; have := q.isLt; omega⟩

/-- The column of feature `d` of head `h`. -/
def feat (h : Fin 4) (d : Fin 64) : Fin 256 := ⟨h.val * 64 + d.val, by have := h.isLt; have := d.isLt; omega⟩

/-- Row `u` of the padded keys (or values). -/
def padRow (x : Vec Ideal S1x2048x256 .bf16) (u : Fin 2560) (j : Fin 256) : EReal :=
  if h : u.val < 512 then 0 else x (ix3 0 ⟨u.val - 512, by have := u.isLt; omega⟩ j)

/-- The padded row that row `r` of tile `m`'s band is. -/
def bandRow (m : Fin 16) (r : Fin 640) : Fin 2560 := ⟨128 * m.val + r.val, by have := m.isLt; have := r.isLt; omega⟩

theorem padded_apply (x : Vec Ideal S1x2048x256 .bf16) (u : Fin 2560) (j : Fin 256) :
    padded x (ix2 u j) = padRow x u j := by
  unfold padded padRow
  by_cases h : u.val < 512
  · have e : (ix2 u j : S2560x256.Idx) = (Rect.unit (s := S2560x256) ![0, 0] S512x256.size inb_S2560x256_S512x256_0_0).emb (ix2 (⟨u.val, h⟩ : Fin 512) j) := by
      funext a
      match a with
      | ⟨0, _⟩ => exact Fin.ext (by show u.val = 0 + 1 * u.val; omega)
      | ⟨1, _⟩ => exact Fin.ext (by show j.val = 0 + 1 * j.val; omega)
    rw [dif_pos h, View.canon_cons_of_not_mem]
    · rw [e, View.canon_cons_emb]
      unfold_payloads
      pointwise
    · intro hm
      obtain ⟨y, hy⟩ := LoadRect.exists_idx_of_mem (Rect.toLoadRect _) hm
      have h0 := congrArg (fun i : S2560x256.Idx => (i 0).val) hy
      have h1 : 512 + 1 * (y 0).val = u.val := h0
      omega
  · have e : (ix2 u j : S2560x256.Idx) = (Rect.unit (s := S2560x256) ![512, 0] S2048x256.size inb_S2560x256_S2048x256_512_0).emb
        (ix2 (⟨u.val - 512, by have := u.isLt; omega⟩ : Fin 2048) j) := by
      funext a
      match a with
      | ⟨0, _⟩ => exact Fin.ext (by show u.val = 512 + 1 * (u.val - 512); omega)
      | ⟨1, _⟩ => exact Fin.ext (by show j.val = 0 + 1 * j.val; omega)
    rw [dif_neg h, e, View.canon_cons_emb]
    unfold_payloads
    pointwise

theorem band_apply (m : Fin 16) (x : Vec Ideal S1x2048x256 .bf16) (r : Fin 640) (j : Fin 256) :
    band m x (ix2 r j) = padRow x (bandRow m r) j := by
  rw [← padded_apply]
  show padded x _ = padded x _
  congr 1
  funext a
  match a with
  | ⟨0, _⟩ => exact Fin.ext (by show 128 * m.val + 1 * r.val = 128 * m.val + r.val; omega)
  | ⟨1, _⟩ => exact Fin.ext (by show 0 + 1 * j.val = j.val; omega)

theorem queries_apply (m : Fin 16) (x : Vec Ideal S1x16x256x128 .bf16) (d : Fin 256) (q : Fin 128) :
    queries m x (ix4 0 0 d q) = x (ix4 0 m d q) := by
  unfold queries
  pointwise

theorem sel_one {α : Type} (a b : α) : Scalar.select 1#1 a b = a := rfl

theorem sel_zero {α : Type} (a b : α) : Scalar.select 0#1 a b = b := rfl

theorem shr_feat : ∀ x : Fin 256, IntOp.shrsi ArithUnit.vector (BitVec.ofNat 32 x.val) 6#32 = BitVec.ofNat 32 (x.val / 64) := by decide +kernel

theorem shr_col : ∀ l : Fin 512, IntOp.shrsi ArithUnit.vector (BitVec.ofNat 32 l.val) 7#32 = BitVec.ofNat 32 (l.val / 128) := by decide +kernel

theorem same_head : ∀ a b : Fin 4, IntOp.cmpi CmpIPredicate.eq (BitVec.ofNat 32 a.val) (BitVec.ofNat 32 b.val) = if a = b then 1#1 else 0#1 := by
  decide +kernel

theorem raw_apply (q : Vec Ideal S1x1x256x128 .bf16) (k : Vec Ideal S640x256 .bf16) (r : Fin 640) (h : Fin 4) (i : Fin 128) :
    raw q k (ix2 r (col h i)) = ∑ d : Fin 64, k (ix2 r (feat h d)) * q (ix4 0 0 (feat h d) i) := by
  unfold raw
  unfold_payloads
  pointwise
  have hi := i.isLt
  have hh := h.isLt
  rw [Fin.sum_univ_tiles 4 64 rfl, Finset.sum_eq_single h]
  · refine Finset.sum_congr rfl fun d _ => ?_
    have hd := d.isLt
    have e1 : IntOp.shrsi ArithUnit.vector (BitVec.ofNat 32 (h.val * 64 + d.val)) 6#32 = BitVec.ofNat 32 h.val := by
      have := shr_feat (feat h d)
      rwa [show (feat h d).val / 64 = h.val by simp only [feat]; omega] at this
    have e2 : IntOp.shrsi ArithUnit.vector (BitVec.ofNat 32 (col h i).val) 7#32 = BitVec.ofNat 32 h.val := by
      have := shr_col (col h i)
      rwa [show (col h i).val / 128 = h.val by simp only [col]; omega] at this
    rw [e1, e2, same_head, if_pos rfl, sel_one]
    change k (ix2 r (feat h d)) * _ = _
    congr 1
    have ec : (col h i).val = h.val * 128 + i.val := rfl
    have key (j : Fin 128) (hj : j.val = i.val) : q (ix4 0 0 (feat h d) j) = q (ix4 0 0 (feat h d) i) := by rw [Fin.ext hj]
    split
    · exact key _ (by dsimp only; omega)
    · split
      · exact key _ (by dsimp only; omega)
      · split
        · exact key _ (by dsimp only; omega)
        · exact key _ (by dsimp only; omega)
  · intro h' _ hne
    refine Finset.sum_eq_zero fun d _ => ?_
    have hd := d.isLt
    have hh' := h'.isLt
    have e1 : IntOp.shrsi ArithUnit.vector (BitVec.ofNat 32 (h'.val * 64 + d.val)) 6#32 = BitVec.ofNat 32 h'.val := by
      have := shr_feat (feat h' d)
      rwa [show (feat h' d).val / 64 = h'.val by simp only [feat]; omega] at this
    have e2 : IntOp.shrsi ArithUnit.vector (BitVec.ofNat 32 (col h i).val) 7#32 = BitVec.ofNat 32 h.val := by
      have := shr_col (col h i)
      rwa [show (col h i).val / 128 = h.val by simp only [col]; omega] at this
    rw [e1, e2, same_head, if_neg hne, sel_zero]
    have z : (((((0#32 : BitVec 32).toInt : ℤ) : ℝ)) : EReal) = 0 := by simp
    erw [z, mul_zero]
  · exact fun hn => absurd (Finset.mem_univ h) hn

theorem neg_inf : Ideal.ofBits FTy.f32 0xFF800000#32 = (⊥ : EReal) := by simp [Ideal.ofBits, Ideal.ieee]

theorem numer_apply (s : FVec Ideal S640x512 .f32) (r : Fin 640) (l : Fin 512) :
    numer s (ix2 r l) = Ideal.exp (s (ix2 r l) - Finset.univ.fold max (⊥ : EReal) fun x : Fin 640 => s (ix2 x l)) := by
  unfold numer
  pointwise
  rw [neg_inf]

theorem denom_apply (s : FVec Ideal S640x512 .f32) (l : Fin 512) :
    denom s (ix2 0 l) = ∑ x : Fin 640, s (ix2 x l) := by
  unfold denom
  pointwise

theorem pay20_apply (v : Vec Ideal S640x256 .bf16) (e : Vec Ideal S640x512 .bf16) (d : Vec Ideal S1x512 .f32) (h : Fin 4) (i : Fin 128) (f : Fin 64) :
    k1_pay20 v e d (ix3 0 i (feat h f)) = (∑ x : Fin 640, e (ix2 x (col h i)) * v (ix2 x (feat h f))) * Ideal.div 1 (d (ix2 0 (col h i))) := by
  unfold_payloads
  pointwise
  have hi := i.isLt
  have hh := h.isLt
  have hf := f.isLt
  have ec : (col h i).val = h.val * 128 + i.val := rfl
  have ef : (feat h f).val = h.val * 64 + f.val := rfl
  have key (l : Fin 512) (j : Fin 256) (hl : l = col h i) (hj : j = feat h f) :
      (∑ x : Fin 640, e (ix2 x l) * v (ix2 x j)) * Ideal.div 1 (d (ix2 0 l))
        = (∑ x : Fin 640, e (ix2 x (col h i)) * v (ix2 x (feat h f))) * Ideal.div 1 (d (ix2 0 (col h i))) := by rw [hl, hj]
  split
  · exact key _ _ (Fin.ext (by dsimp only; omega)) (Fin.ext (by dsimp only))
  · split
    · exact key _ _ (Fin.ext (by dsimp only; omega)) (Fin.ext (by dsimp only; omega))
    · split
      · exact key _ _ (Fin.ext (by dsimp only; omega)) (Fin.ext (by dsimp only; omega))
      · exact key _ _ (Fin.ext (by dsimp only; omega)) (Fin.ext (by dsimp only; omega))

theorem pay14_apply (e : FVec Ideal S640x512 .f32) (j : S640x512.Idx) : k1_pay14 e j = e j := by
  idx_vars j
  unfold_payloads
  pointwise

theorem sge_row : ∀ (m : Fin 4) (r : Fin 640), IntOp.cmpi CmpIPredicate.sge (BitVec.ofNat 32 r.val) (BitVec.ofNat 32 (512 - 128 * m.val))
    = if 128 * m.val + r.val < 512 then 0#1 else 1#1 := by decide +kernel

theorem scores_apply (m : Fin 16) (q : Vec Ideal S1x1x256x128 .bf16) (k : Vec Ideal S640x256 .bf16) (b : Vec Ideal S1x640x512 .f32) (r : Fin 640) (l : Fin 512) :
    scores m q k b (ix2 r l) = if 128 * m.val + r.val < 512 then ⊥ else raw q k (ix2 r l) + b (ix3 0 r l) := by
  unfold scores biased
  by_cases hm : m.val < 4
  · rw [if_pos hm]
    pointwise
    have hs := sge_row ⟨m.val, hm⟩ r
    dsimp only at hs
    rw [hs]
    by_cases hr : 128 * m.val + r.val < 512
    · rw [if_pos hr, if_pos hr, sel_zero]
      rfl
    · rw [if_neg hr, if_neg hr, sel_one]
  · rw [if_neg hm, if_neg (by omega)]
    pointwise

/-- The score of row `r` of tile `m`'s band against query `i` of head `h`. -/
def score (x0 : Vec Ideal S1x16x256x128 .bf16) (x1 : Vec Ideal S1x2048x256 .bf16) (x3 : Vec Ideal S1x640x512 .f32)
    (m : Fin 16) (h : Fin 4) (i : Fin 128) (r : Fin 640) : EReal :=
  if 128 * m.val + r.val < 512 then ⊥
  else (∑ d : Fin 64, padRow x1 (bandRow m r) (feat h d) * x0 (ix4 0 m (feat h d) i)) + x3 (ix3 0 r (col h i))

/-- The numerator of the softmax there. -/
def weight (x0 : Vec Ideal S1x16x256x128 .bf16) (x1 : Vec Ideal S1x2048x256 .bf16) (x3 : Vec Ideal S1x640x512 .f32)
    (m : Fin 16) (h : Fin 4) (i : Fin 128) (r : Fin 640) : EReal :=
  Ideal.exp (score x0 x1 x3 m h i r - Finset.univ.fold max (⊥ : EReal) (score x0 x1 x3 m h i))

theorem scores_eq (x0 : Vec Ideal S1x16x256x128 .bf16) (x1 : Vec Ideal S1x2048x256 .bf16) (x3 : Vec Ideal S1x640x512 .f32)
    (m : Fin 16) (h : Fin 4) (i : Fin 128) (r : Fin 640) :
    scores m (queries m x0) (band m x1) x3 (ix2 r (col h i)) = score x0 x1 x3 m h i r := by
  rw [scores_apply, raw_apply, score]
  simp only [band_apply, queries_apply]

/-- THE TILE: the weighted sum of the band's values, times one over the sum of the weights. -/
theorem tile_apply (x0 : Vec Ideal S1x16x256x128 .bf16) (x1 x2 : Vec Ideal S1x2048x256 .bf16) (x3 : Vec Ideal S1x640x512 .f32)
    (m : Fin 16) (h : Fin 4) (i : Fin 128) (f : Fin 64) :
    tile m x0 x1 x2 x3 (ix3 0 i (feat h f))
      = (∑ r : Fin 640, weight x0 x1 x3 m h i r * padRow x2 (bandRow m r) (feat h f)) * Ideal.div 1 (∑ r : Fin 640, weight x0 x1 x3 m h i r) := by
  unfold tile
  simp only [pay20_apply, denom_apply, pay14_apply, numer_apply, scores_eq, band_apply]
  rfl

end Cert.KernelIdeal.Attn
-- ==== Proof.Blocks.lean ====
/- THE ATTENTION'S ARRAY AFTER THE RUN. A point's block is its sixteen tiles one under the other (`outs_apply`); the
   sixteen points' blocks tile the array, so an element of the array is the tile formula over the four operand arrays
   (`attn_array`). -/
module

public import proofs.«01_k».proof.Proof.Tile

@[expose] public section

set_option maxRecDepth 16384

noncomputable section

namespace Cert.KernelIdeal.Attn

open Idealize.ShloMosaic Idealize.ShloMosaic.TcCoe Idealize.ShloMosaic.Pointwise Cert.KernelIdeal Cert.KernelIdeal.Gen

/-- The tile of row `s`, and the row within it. -/
def tileOf (s : Fin 2048) : Fin 16 := ⟨s.val / 128, by have := s.isLt; omega⟩
def rowOf (s : Fin 2048) : Fin 128 := ⟨s.val % 128, by omega⟩

variable (V : (c : Dev nD) → (b : Ref sig .tc) → Buf (Elt Ideal) ((c : Thread nD τ).loc b))

/-- The block a point leaves: row `s` is row `s % 128` of tile `s / 128`. -/
def blockOf (x0 : Vec Ideal S1x16x256x128 .bf16) (x1 x2 : Vec Ideal S1x2048x256 .bf16) (x3 : Vec Ideal S1x640x512 .f32) : Vec Ideal S1x2048x256 .bf16 :=
  fun y => tile (tileOf (y 1)) x0 x1 x2 x3 (ix3 (0 : Fin 1) (rowOf (y 1)) (y 2))

theorem outs_apply (c : Dev nD) (t : Fin cfg1.N) :
    outsAt1 V c t = blockOf (iblk1 V c 0 t) (iblk1 V c 1 t) (iblk1 V c 2 t) (iblk1 V c 3 t) := by
  rw [outs_eq]
  generalize iblk1 V c 0 t = x0
  generalize iblk1 V c 1 t = x1
  generalize iblk1 V c 2 t = x2
  generalize iblk1 V c 3 t = x3
  funext y
  refine View.canon_apply_of_pieces (blockOf x0 x1 x2 x3) _ ?_ y ?_
  · intro p hp x
    obtain ⟨m, _, rfl⟩ := List.mem_map.1 hp
    have hm := m.isLt
    have e (a : Fin 16) (i : Fin 128) (j : Fin 256) (ha : a = m) (hi : i = x 1) (hj : j = x 2) :
        tile m x0 x1 x2 x3 x = tile a x0 x1 x2 x3 (ix3 (0 : Fin 1) i j) := by
      subst ha hi hj
      congr 1
      funext b
      match b with
      | ⟨0, _⟩ => exact Fin.ext (by have : (x 0).val < 1 := (x 0).isLt; show (x 0).val = 0; omega)
      | ⟨1, _⟩ => rfl
      | ⟨2, _⟩ => rfl
    have h1 : (x 1).val < 128 := (x 1).isLt
    refine e _ _ _ (Fin.ext ?_) (Fin.ext ?_) (Fin.ext ?_)
    · show (128 * m.val + 1 * (x 1).val) / 128 = m.val
      omega
    · show (128 * m.val + 1 * (x 1).val) % 128 = (x 1).val
      omega
    · show 0 + 1 * (x 2).val = (x 2).val
      omega
  · have h1 : (y 1).val < 2048 := (y 1).isLt
    refine ⟨piece x0 x1 x2 x3 (tileOf (y 1)), List.mem_map.2 ⟨_, ?_, rfl⟩, ?_⟩
    · generalize tileOf (y 1) = m
      revert m
      decide
    · refine (Rect.mem_set_unit (inb := tile_inb (tileOf (y 1)))).2 fun a => ?_
      match a with
      | ⟨0, _⟩ => have : (y 0).val < 1 := (y 0).isLt
                  exact ⟨Nat.zero_le _, by show (y 0).val < 0 + 1; omega⟩
      | ⟨1, _⟩ => exact ⟨by show 128 * ((y 1).val / 128) ≤ (y 1).val; omega, by show (y 1).val < 128 * ((y 1).val / 128) + 128; omega⟩
      | ⟨2, _⟩ => have : (y 2).val < 256 := (y 2).isLt
                  exact ⟨Nat.zero_le _, by show (y 2).val < 0 + 256; omega⟩

/-- The block of four heads' queries of one batch. -/
def qBlk (q : Vec Ideal S8x16x512x128 .bf16) (b : Fin 8) (g : Fin 2) : Vec Ideal S1x16x256x128 .bf16 :=
  fun y => q (ix4 b (y 1) ⟨g.val * 256 + (y 2).val, by have := g.isLt; have : (y 2).val < 256 := (y 2).isLt; omega⟩ (y 3))

/-- The block of four heads' keys (or values) of one batch. -/
def kBlk (k : Vec Ideal S8x2048x512 .bf16) (b : Fin 8) (g : Fin 2) : Vec Ideal S1x2048x256 .bf16 :=
  fun y => k (ix3 b (y 1) ⟨g.val * 256 + (y 2).val, by have := g.isLt; have : (y 2).val < 256 := (y 2).isLt; omega⟩)

/-- The block of four heads' bias. -/
def tBlk (t : Vec Ideal S4x640x512 .f32) (g : Fin 2) : Vec Ideal S1x640x512 .f32 :=
  fun y => t (ix3 ⟨g.val, by have := g.isLt; omega⟩ (y 1) (y 2))

/-- The attention's array, from its four operands. -/
def attnOut (q : Vec Ideal S8x16x512x128 .bf16) (k v : Vec Ideal S8x2048x512 .bf16) (t : Vec Ideal S4x640x512 .f32) : Vec Ideal S8x2048x512 .bf16 :=
  fun y =>
    let g : Fin 2 := ⟨(y 2).val / 256, by have : (y 2).val < 512 := (y 2).isLt; omega⟩
    blockOf (qBlk q (y 0) g) (kBlk k (y 0) g) (kBlk v (y 0) g) (tBlk t g) (ix3 (0 : Fin 1) (y 1) (⟨(y 2).val % 256, by omega⟩ : Fin 256))

/-- A point's batch and group. -/
def bat (t : Fin cfg1.N) : Fin 8 := grid1.coords t 0
def grp (t : Fin cfg1.N) : Fin 2 := grid1.coords t 1

theorem idx1 : ∀ t : Fin grid1.N, win1_0.index t = ![(grid1.coords t 0).val, 0, (grid1.coords t 1).val, 0]
    ∧ win1_1.index t = ![(grid1.coords t 0).val, 0, (grid1.coords t 1).val] ∧ win1_2.index t = ![(grid1.coords t 0).val, 0, (grid1.coords t 1).val]
    ∧ win1_3.index t = ![(grid1.coords t 1).val, 0, 0] ∧ win1_4.index t = ![(grid1.coords t 0).val, 0, (grid1.coords t 1).val] := by
  decide +kernel

theorem iblk_q (c : Dev nD) (t : Fin cfg1.N) : iblk1 V c 0 t = qBlk (V c main_arg0) (bat t) (grp t) := by
  funext y
  unfold qBlk bat grp
  blk_ext [iblk1, idx1 t]

theorem iblk_k (c : Dev nD) (t : Fin cfg1.N) : iblk1 V c 1 t = kBlk (V c main_arg1) (bat t) (grp t) := by
  funext y
  unfold kBlk bat grp
  blk_ext [iblk1, idx1 t]

theorem iblk_v (c : Dev nD) (t : Fin cfg1.N) : iblk1 V c 2 t = kBlk (V c main_arg2) (bat t) (grp t) := by
  funext y
  unfold kBlk bat grp
  blk_ext [iblk1, idx1 t]

theorem iblk_t (c : Dev nD) (t : Fin cfg1.N) : iblk1 V c 3 t = tBlk (V c main_v10) (grp t) := by
  funext y
  unfold tBlk grp
  blk_ext [iblk1, idx1 t]

theorem attnOut_at (q : Vec Ideal S8x16x512x128 .bf16) (k v : Vec Ideal S8x2048x512 .bf16) (t : Vec Ideal S4x640x512 .f32)
    (z : S8x2048x512.Idx) (b : Fin 8) (g : Fin 2) (y : S1x2048x256.Idx) (h0 : (z 0).val = b.val) (h1 : (z 1).val = (y 1).val)
    (h2 : (z 2).val = g.val * 256 + (y 2).val) :
    attnOut q k v t z = blockOf (qBlk q b g) (kBlk k b g) (kBlk v b g) (tBlk t g) y := by
  have hy : (y 2).val < 256 := (y 2).isLt
  have hy0 : (y 0).val < 1 := (y 0).isLt
  have e0 : z 0 = b := Fin.ext h0
  have eg : (⟨(z 2).val / 256, by have : (z 2).val < 512 := (z 2).isLt; omega⟩ : Fin 2) = g := Fin.ext (by dsimp only; omega)
  have ey : (ix3 (0 : Fin 1) (z 1) (⟨(z 2).val % 256, by omega⟩ : Fin 256) : S1x2048x256.Idx) = y := by
    funext a
    match a with
    | ⟨0, _⟩ => exact Fin.ext (by show 0 = (y 0).val; omega)
    | ⟨1, _⟩ => exact Fin.ext h1
    | ⟨2, _⟩ => exact Fin.ext (by show (z 2).val % 256 = (y 2).val; omega)
  unfold attnOut
  dsimp only
  rw [eg, ey, e0]

theorem attn_array (c : Dev nD) :
    (dat1 V c).arrAt 4 cfg1.N = attnOut (V c main_arg0) (V c main_arg1) (V c main_arg2) (V c main_v10) := by
  refine (dat1 V c).arrAt_eq_of_covers 4 _ (by decide +kernel) fun t hf y => ?_
  blk_simp
  rw [after1_4, outs_apply, iblk_q, iblk_k, iblk_v, iblk_t]
  refine (attnOut_at _ _ _ _ _ (bat t) (grp t) y ?_ ?_ ?_).symm
  · unfold bat
    blk_simp [idx1 t]
  · blk_simp [idx1 t]
  · unfold grp
    blk_simp [idx1 t]

end Cert.KernelIdeal.Attn
-- ==== Proof.Bias.lean ====
/- THE BIAS TABLE'S PROGRAM POINT. A point writes the bias of four heads in five row tiles each: twenty pieces, every one
   the same computation from two neighbouring rows of windows. `biasTile` is that computation, `bias_eq` the point as the
   twenty of them, `biasTile_apply` its elements. -/
module

public import proofs.«01_k».proof.Proof.Tile

@[expose] public section

set_option maxRecDepth 16384

noncomputable section

namespace Cert.KernelIdeal.Attn

open Idealize.ShloMosaic Idealize.ShloMosaic.TcCoe Idealize.ShloMosaic.Pointwise Cert.KernelIdeal Cert.KernelIdeal.Gen

section

variable {F : FTy → Type} [FloatOps F] [Named F]

/-- Row tile `a` of one head's bias, from two neighbouring rows of windows. -/
def biasTile (a : Fin 5) (lo hi : Vec F S1x1x128 .f32) : FVec F S1x128x128 .f32 :=
  shapeCast S1x128x128
    (select
      (andi
        (cmpi .sge (addi (broadcast S128x128 (BitVec.ofNat 32 (128 * a.val))) (iota .tc S128x128 32 [0] iota_S128x128_d0_w32)) k0_pay2)
        (cmpi .slt (addi (broadcast S128x128 (BitVec.ofNat 32 (128 * a.val))) (iota .tc S128x128 32 [0] iota_S128x128_d0_w32))
          (addi (addi k0_pay2 (broadcast S128x128 512#32)) (broadcast S128x128 64#32))))
      (select (cmpi .sgt (iota .tc S128x128 32 [0] iota_S128x128_d0_w32) (iota .tc S128x128 32 [1] iota_S128x128_d1_w32)) (k0_pay3 hi) (k0_pay3 lo))
      (broadcast S128x128 (Named.named κ "mask" 0xF149F2CA#32)))
    shapeCasts_S128x128_S1x128x128

theorem win_inb (n : Fin 24) : ∀ a, (![0, n.val, 0] : Fin 3 → Nat) a + S1x1x128.size a ≤ S1x24x128.size a := by
  have := n.isLt
  intro a
  match a with
  | ⟨0, _⟩ => show 0 + 1 ≤ 1; omega
  | ⟨1, _⟩ => show n.val + 1 ≤ 24; omega
  | ⟨2, _⟩ => show 0 + 128 ≤ 128; omega

/-- Row `n` of the windows. -/
def win (x : Vec F S1x24x128 .f32) (n : Fin 24) : Vec F S1x1x128 .f32 :=
  View.ld x (Rect.unit ![0, n.val, 0] S1x1x128.size (win_inb n))

theorem biasTile_inb (h : Fin 4) (a : Fin 5) : ∀ b, (![0, 128 * a.val, 128 * h.val] : Fin 3 → Nat) b + S1x128x128.size b ≤ S1x640x512.size b := by
  have := h.isLt
  have := a.isLt
  intro b
  match b with
  | ⟨0, _⟩ => show 0 + 1 ≤ 1; omega
  | ⟨1, _⟩ => show 128 * a.val + 128 ≤ 640; omega
  | ⟨2, _⟩ => show 128 * h.val + 128 ≤ 512; omega

/-- Row tile `a` of head `h` as a piece of the block. -/
def biasPiece (x : Vec F S1x24x128 .f32) (p : Fin 4 × Fin 5) : View.Piece (Elt F) S1x640x512 .f32 :=
  ⟨Rect.unit ![0, 128 * p.2.val, 128 * p.1.val] S1x128x128.size (biasTile_inb p.1 p.2),
    biasTile p.2 (win x ⟨6 * p.1.val + p.2.val, by have := p.1.isLt; have := p.2.isLt; omega⟩)
      (win x ⟨6 * p.1.val + p.2.val + 1, by have := p.1.isLt; have := p.2.isLt; omega⟩)⟩

theorem cons_congr' {α : Type _} {a b : α} {l l' : List α} (h : a = b) (h' : l = l') : a :: l = b :: l' := by rw [h, h']

/-- The heads and row tiles in the order of the point's last store to its first. -/
def biasOrder : List (Fin 4 × Fin 5) :=
  [(3, 4), (3, 3), (3, 2), (3, 1), (3, 0), (2, 4), (2, 3), (2, 2), (2, 1), (2, 0), (1, 4), (1, 3), (1, 2), (1, 1), (1, 0), (0, 4), (0, 3), (0, 2), (0, 1), (0, 0)]

set_option maxHeartbeats 4000000 in
/-- The point writes the twenty tiles. -/
theorem bias_eq (x : Vec F S1x24x128 .f32) : out0_1 x = View.canon (biasOrder.map (biasPiece x)) := by
  unfold out0_1 biasOrder
  simp only [List.map_cons, List.map_nil]
  refine congrArg View.canon ?_
  iterate 20
    refine cons_congr' (by
      unfold_payloads
      unfold biasPiece biasTile win
      unfold_payloads
      with_unfolding_all rfl) ?_
  rfl

end

/-- The mask constant reads as minus infinity. -/
theorem mask_eq : (Named.named κ "mask" 0xF149F2CA#32 : Ideal .f32) = (⊥ : EReal) := rfl

/-- The first row of a query column's band: the start of its chunk, as the kernel's words compute it. -/
theorem first_word (r q : Fin 128) : (k0_pay2 : IVec S128x128 32) (ix2 r q) = BitVec.ofNat 32 (q.val / 64 * 64) := by
  unfold_payloads
  pointwise
  revert q
  decide +kernel

theorem ge_word (a : Fin 5) (r : Fin 128) (f : Nat) (hf : f = 0 ∨ f = 64) :
    IntOp.cmpi .sge (IntOp.addi (BitVec.ofNat 32 (128 * a.val)) (BitVec.ofNat 32 r.val)) (BitVec.ofNat 32 f) = if f ≤ 128 * a.val + r.val then 1#1 else 0#1 := by
  have h : ∀ (n : Fin 640) (f : Fin 2), IntOp.cmpi .sge (BitVec.ofNat 32 n.val) (BitVec.ofNat 32 (64 * f.val)) = if 64 * f.val ≤ n.val then 1#1 else 0#1 := by
    decide +kernel
  have := a.isLt
  have e : IntOp.addi (BitVec.ofNat 32 (128 * a.val)) (BitVec.ofNat 32 r.val) = BitVec.ofNat 32 (128 * a.val + r.val) := (BitVec.ofNat_add _ _).symm
  rw [e]
  rcases hf with rfl | rfl
  · exact h ⟨128 * a.val + r.val, by omega⟩ 0
  · exact h ⟨128 * a.val + r.val, by omega⟩ 1

theorem lt_word (a : Fin 5) (r : Fin 128) (f : Nat) (hf : f = 0 ∨ f = 64) :
    IntOp.cmpi .slt (IntOp.addi (BitVec.ofNat 32 (128 * a.val)) (BitVec.ofNat 32 r.val)) (IntOp.addi (IntOp.addi (BitVec.ofNat 32 f) 512#32) 64#32)
      = if 128 * a.val + r.val < f + 576 then 1#1 else 0#1 := by
  have h : ∀ (n : Fin 640) (f : Fin 2), IntOp.cmpi .slt (BitVec.ofNat 32 n.val) (BitVec.ofNat 32 (64 * f.val + 512 + 64)) = if n.val < 64 * f.val + 576 then 1#1 else 0#1 := by
    decide +kernel
  have := a.isLt
  have e : IntOp.addi (BitVec.ofNat 32 (128 * a.val)) (BitVec.ofNat 32 r.val) = BitVec.ofNat 32 (128 * a.val + r.val) := (BitVec.ofNat_add _ _).symm
  have e' : IntOp.addi (IntOp.addi (BitVec.ofNat 32 f) 512#32) 64#32 = BitVec.ofNat 32 (f + 512 + 64) := by
    rw [BitVec.ofNat_add (f + 512), BitVec.ofNat_add f]; rfl
  rw [e, e']
  rcases hf with rfl | rfl
  · exact h ⟨128 * a.val + r.val, by omega⟩ 0
  · exact h ⟨128 * a.val + r.val, by omega⟩ 1

theorem gt_word (r q : Fin 128) : IntOp.cmpi .sgt (BitVec.ofNat 32 r.val) (BitVec.ofNat 32 q.val) = if q.val < r.val then 1#1 else 0#1 := by
  revert r q
  decide +kernel

/-- The lane of a window that row `r` of query column `q` reads. -/
def lane (r q : Fin 128) : Fin 128 := ⟨(q.val + 128 - r.val % 128) % 128, Nat.mod_lt _ (by omega)⟩

theorem sel_ite (P : Prop) [Decidable P] (x y : EReal) : Scalar.select (if P then 1#1 else 0#1) x y = if P then x else y := by
  split
  · rfl
  · rfl

theorem and_ite (P Q : Prop) [Decidable P] [Decidable Q] : IntOp.andi (if P then 1#1 else 0#1) (if Q then 1#1 else 0#1) = if P ∧ Q then 1#1 else 0#1 := by
  by_cases hP : P <;> by_cases hQ : Q <;> simp [hP, hQ, IntOp.andi]

/-- An element of a row tile: the window entry at the key's distance, and minus infinity outside the query's band. -/
theorem biasTile_apply (a : Fin 5) (lo hi : Vec Ideal S1x1x128 .f32) (r q : Fin 128) :
    biasTile a lo hi (ix3 0 r q)
      = if q.val / 64 * 64 ≤ 128 * a.val + r.val ∧ 128 * a.val + r.val < q.val / 64 * 64 + 576 then
          (if q.val < r.val then hi (ix3 0 0 (lane r q)) else lo (ix3 0 0 (lane r q)))
        else (⊥ : EReal) := by
  have hq : q.val / 64 * 64 = 0 ∨ q.val / 64 * 64 = 64 := by have := q.isLt; omega
  have hw := first_word r q
  have hge := ge_word a r _ hq
  have hlt := lt_word a r _ hq
  rw [← hw] at hge hlt
  unfold biasTile
  rw [← sel_ite, ← sel_ite, ← and_ite, ← hge, ← hlt, ← gt_word, ← mask_eq]
  unfold_payloads
  pointwise
  rfl

/-- Row `r` of query column `q` reads the windows at this row, -/
def winRow (r : Fin 640) (q : Fin 128) : Nat := if q.val < r.val % 128 then r.val / 128 + 1 else r.val / 128

/-- and at this lane. -/
def winLane (r : Fin 640) (q : Fin 128) : Fin 128 := ⟨(q.val + 128 - r.val % 128) % 128, Nat.mod_lt _ (by omega)⟩

theorem winRow_lt (r : Fin 640) (q : Fin 128) : winRow r q < 6 := by
  have := r.isLt
  unfold winRow
  split <;> omega

/-- The bias of head `h` for key row `r` and query column `q`, from the four heads' windows. -/
def biasEl (x : Vec Ideal S1x24x128 .f32) (h : Fin 4) (r : Fin 640) (q : Fin 128) : EReal :=
  if q.val / 64 * 64 ≤ r.val ∧ r.val < q.val / 64 * 64 + 576 then
    x (ix3 (0 : Fin 1) ⟨6 * h.val + winRow r q, by have := winRow_lt r q; have := h.isLt; omega⟩ (winLane r q))
  else ⊥

/-- The bias of four heads from their windows. -/
def biasBlk (x : Vec Ideal S1x24x128 .f32) : Vec Ideal S1x640x512 .f32 := fun y =>
  biasEl x ⟨(y 2).val / 128, by have : (y 2).val < 512 := (y 2).isLt; omega⟩ (y 1) ⟨(y 2).val % 128, Nat.mod_lt _ (by omega)⟩

theorem win_apply (x : Vec Ideal S1x24x128 .f32) (n : Fin 24) (l : Fin 128) : win x n (ix3 0 0 l) = x (ix3 0 n l) := by
  unfold win
  refine congrArg x (funext fun a => ?_)
  match a with
  | ⟨0, _⟩ => exact Fin.ext (by show 0 + 1 * 0 = 0; omega)
  | ⟨1, _⟩ => exact Fin.ext (by show n.val + 1 * 0 = n.val; omega)
  | ⟨2, _⟩ => exact Fin.ext (by show 0 + 1 * l.val = l.val; omega)

theorem biasEl_tile (x : Vec Ideal S1x24x128 .f32) (h : Fin 4) (a : Fin 5) (r q : Fin 128) (R : Fin 640) (hR : R.val = 128 * a.val + r.val) :
    biasEl x h R q = (biasPiece x (h, a)).2 (ix3 0 r q) := by
  have hr := r.isLt
  have hq := q.isLt
  have hl : winLane R q = lane r q := Fin.ext (by show (q.val + 128 - R.val % 128) % 128 = (q.val + 128 - r.val % 128) % 128; omega)
  refine Eq.trans ?_ (biasTile_apply _ _ _ _ _).symm
  by_cases hc : q.val / 64 * 64 ≤ 128 * a.val + r.val ∧ 128 * a.val + r.val < q.val / 64 * 64 + 576
  · rw [if_pos hc, biasEl, if_pos (by rw [hR]; exact hc)]
    by_cases hlt : q.val < r.val
    · rw [if_pos hlt]
      refine Eq.trans ?_ (win_apply _ _ _).symm
      refine congrArg x (congrArg₂ (ix3 (0 : Fin 1)) (Fin.ext ?_) hl)
      show 6 * h.val + winRow R q = 6 * h.val + a.val + 1
      unfold winRow
      rw [if_pos (by omega)]
      omega
    · rw [if_neg hlt]
      refine Eq.trans ?_ (win_apply _ _ _).symm
      refine congrArg x (congrArg₂ (ix3 (0 : Fin 1)) (Fin.ext ?_) hl)
      show 6 * h.val + winRow R q = 6 * h.val + a.val
      unfold winRow
      rw [if_neg (by omega)]
      omega
  · rw [if_neg hc, biasEl, if_neg (by rw [hR]; exact hc)]

/-- The point writes the bias of its four heads. -/
theorem bias_apply (x : Vec Ideal S1x24x128 .f32) : out0_1 x = biasBlk x := by
  rw [bias_eq]
  funext y
  refine View.canon_apply_of_pieces (biasBlk x) _ ?_ y ?_
  · intro p hp j
    obtain ⟨⟨h, a⟩, -, rfl⟩ := List.mem_map.1 hp
    have hj1 : (j 1).val < 128 := (j 1).isLt
    have hj2 : (j 2).val < 128 := (j 2).isLt
    have ha := a.isLt
    have hh := h.isLt
    have e : j = ix3 (0 : Fin 1) (j 1) (j 2) := by
      funext b
      match b with
      | ⟨0, _⟩ => exact Fin.ext (by have : (j 0).val < 1 := (j 0).isLt; show (j 0).val = 0; omega)
      | ⟨1, _⟩ => rfl
      | ⟨2, _⟩ => rfl
    have e' (h' : Fin 4) (R : Fin 640) (q : Fin 128) (eh : h' = h) (eR : R.val = 128 * a.val + (j 1).val) (eq : q = j 2) :
        (biasPiece x (h, a)).2 j = biasEl x h' R q := by
      subst eh eq
      exact (congrArg _ e).trans (biasEl_tile x _ a (j 1) (j 2) R eR).symm
    refine e' _ _ _ (Fin.ext ?_) ?_ (Fin.ext ?_)
    · show (128 * h.val + 1 * (j 2).val) / 128 = h.val
      omega
    · show 128 * a.val + 1 * (j 1).val = 128 * a.val + (j 1).val
      omega
    · show (128 * h.val + 1 * (j 2).val) % 128 = (j 2).val
      omega
  · have h1 : (y 1).val < 640 := (y 1).isLt
    have h2 : (y 2).val < 512 := (y 2).isLt
    refine ⟨biasPiece x (⟨(y 2).val / 128, by omega⟩, ⟨(y 1).val / 128, by omega⟩), List.mem_map.2 ⟨_, ?_, rfl⟩, ?_⟩
    · generalize (⟨(y 2).val / 128, by omega⟩ : Fin 4) = h
      generalize (⟨(y 1).val / 128, by omega⟩ : Fin 5) = a
      revert h a
      decide
    · refine (Rect.mem_set_unit (inb := biasTile_inb ⟨(y 2).val / 128, by omega⟩ ⟨(y 1).val / 128, by omega⟩)).2 fun a => ?_
      match a with
      | ⟨0, _⟩ => have : (y 0).val < 1 := (y 0).isLt
                  exact ⟨Nat.zero_le _, by show (y 0).val < 0 + 1; omega⟩
      | ⟨1, _⟩ => exact ⟨by show 128 * ((y 1).val / 128) ≤ (y 1).val; omega, by show (y 1).val < 128 * ((y 1).val / 128) + 128; omega⟩
      | ⟨2, _⟩ => exact ⟨by show 128 * ((y 2).val / 128) ≤ (y 2).val; omega, by show (y 2).val < 128 * ((y 2).val / 128) + 128; omega⟩

/-- The bias tables from the windows of all heads: block `i` is the bias of heads `4 i`, …, `4 i + 3`. -/
def biasOut (w : Vec Ideal S4x24x128 .f32) : Vec Ideal S4x640x512 .f32 := fun z =>
  biasBlk (fun y => w (ix3 (z 0) (y 1) (y 2))) (ix3 (0 : Fin 1) (z 1) (z 2))

theorem idx0 : ∀ t : Fin grid0.N, win0_0.index t = ![(grid0.coords t 0).val, 0, 0] ∧ win0_1.index t = ![(grid0.coords t 0).val, 0, 0] := by
  decide +kernel

variable (V : (c : Dev nD) → (b : Ref sig .tc) → Buf (Elt Ideal) ((c : Thread nD τ).loc b))

theorem biasOut_at (w : Vec Ideal S4x24x128 .f32) (z : S4x640x512.Idx) (i : Fin 4) (y : S1x640x512.Idx) (h0 : (z 0).val = i.val)
    (h1 : (z 1).val = (y 1).val) (h2 : (z 2).val = (y 2).val) : biasOut w z = biasBlk (fun y => w (ix3 i (y 1) (y 2))) y := by
  have e0 : z 0 = i := Fin.ext h0
  have ey : (ix3 (0 : Fin 1) (z 1) (z 2) : S1x640x512.Idx) = y := by
    funext a
    match a with
    | ⟨0, _⟩ => exact Fin.ext (by have : (y 0).val < 1 := (y 0).isLt; show 0 = (y 0).val; omega)
    | ⟨1, _⟩ => exact Fin.ext h1
    | ⟨2, _⟩ => exact Fin.ext h2
  unfold biasOut
  rw [ey, e0]

theorem iblk_w (c : Dev nD) (t : Fin cfg0.N) :
    iblk0 V c 0 t = fun y : S1x24x128.Idx => (V c main_v9 : Vec Ideal S4x24x128 .f32) (ix3 (grid0.coords t 0) (y 1) (y 2)) := by
  funext y
  blk_ext [iblk0, idx0 t]

/-- The bias call's array. -/
theorem bias_array (c : Dev nD) : (dat0 V c).arrAt 1 cfg0.N = biasOut (V c main_v9) := by
  refine (dat0 V c).arrAt_eq_of_covers 1 _ (by decide +kernel) fun t hf y => ?_
  blk_simp
  rw [after0_1, bias_apply, iblk_w]
  refine (biasOut_at _ _ (grid0.coords t 0) y ?_ ?_ ?_).symm
  · blk_simp [idx0 t]
  · blk_simp [idx0 t]
  · blk_simp [idx0 t]

end Cert.KernelIdeal.Attn
-- ==== Proof.Prep.lean ====
/- THE BIAS TABLES OF LAYER 0. The host lays the relative bias table out as one line per head and cuts it into reversed
   windows (`windows`); the bias call reads, for key row `r` and query column `q`, that line at `r + 127 - q`
   (`biasOut_apply`). -/
module

public import proofs.«01_k».proof.Proof.Bias
@[expose] public section

set_option maxRecDepth 16384

noncomputable section

namespace Cert.KernelIdeal.Attn

open Idealize.ShloMosaic Idealize.ShloMosaic.TcCoe Idealize.ShloMosaic.Pointwise Idealize.ShloMosaic.StableHlo Cert.KernelIdeal Cert.KernelIdeal.Gen
variable (m : (ℓ : Loc nD τ sig) → Buf (Elt Ideal) ℓ) (ρ : Dev nD → PrngReg)

/-- The windows, each read backwards. -/
def reversed (x : Vec Ideal S16x6x128 .f32) : Vec Ideal S16x6x128 .f32 := Host.reverse [2] x

theorem reversed_apply (x : Vec Ideal S16x6x128 .f32) (i : Fin 16) (j : Fin 6) (l : Fin 128) : reversed x (ix3 i j l) = x (ix3 i j l.rev) := by
  unfold reversed Host.reverse
  refine congrArg x (funext fun a => ?_)
  match a with
  | ⟨0, _⟩ => rfl
  | ⟨1, _⟩ => rfl
  | ⟨2, _⟩ => rfl

/-- The windows of all heads, from the relative bias table. -/
def windows (rb : Vec Ideal S2x8x257 .f32) : Vec Ideal S4x24x128 .f32 :=
  shapeCast S4x24x128
    (reversed
      (shapeCast S16x6x128
        (pad S16x768 ![0, 0] ![0, 1] ![0, 0]
          (concatenate S16x767 1
            [⟨S16x512, shapeCast S16x512
                (broadcastInDim S16x1x512 ![0, 1] bcast_S16x1_S16x1x512_0_1
                  (extractStridedSlice S16x1 ![0, 0] (shapeCast S16x257 rb shapeCasts_S2x8x257_S16x257) slices_S16x257_S16x1_0_0) : Vec Ideal S16x1x512 .f32)
                shapeCasts_S16x1x512_S16x512⟩,
              ⟨S16x255, extractStridedSlice S16x255 ![0, 1] (shapeCast S16x257 rb shapeCasts_S2x8x257_S16x257) slices_S16x257_S16x255_0_1⟩]
            concatenates_S16x512_S16x255_S16x767_d1 : Vec Ideal S16x767 .f32)
          (sitofp (F := Ideal) .f32 (constantI S_ 32 0#32)) pads_S16x767_S16x768_000_010 h_S_)
        shapeCasts_S16x768_S16x6x128 : Vec Ideal S16x6x128 .f32))
    shapeCasts_S16x6x128_S4x24x128

theorem windows_run (c : Dev nD) : V3 m ρ c main_v9 = windows (m ((c : Thread nD τ).loc main_arg3)) := by
  show StableHlo.after hostOps0_2 (StableHlo.after hostOps0_1 (StableHlo.after hostOps0 (W0 m ρ c))) _ = _
  unfold hostOps0_2 hostOps0_1 hostOps0
  after_results
  rfl

theorem windows_apply (rb : Vec Ideal S2x8x257 .f32) (g : Fin 2) (h : Fin 4) (n : Fin 24) (l : Fin 128) (w p : Nat)
    (hn : n.val = 6 * h.val + w) (hw : w < 6) (hp : w * 128 + 127 = p + l.val) (hlt : p < 767) :
    windows rb (ix3 (⟨g.val, by have := g.isLt; omega⟩ : Fin 4) n l)
      = rb (ix3 0 ⟨4 * g.val + h.val, by have := g.isLt; have := h.isLt; omega⟩ ⟨if p < 512 then 0 else p - 511, by split <;> omega⟩) := by
  have hg := g.isLt
  have hh := h.isLt
  have hl := l.isLt
  unfold windows
  pointwise
  rw [reversed_apply]
  pointwise
  simp only [Fin.val_rev]
  have key : n.val % 6 * 128 + (128 - (l.val + 1)) = p := by omega
  rw [dif_pos (by omega)]
  by_cases hs : p < 512
  · rw [dif_pos (by omega)]
    refine congrArg rb ?_
    congr 1
    · exact Fin.ext (by dsimp only; omega)
    · exact Fin.ext (by dsimp only; omega)
    · exact Fin.ext (by dsimp only; rw [if_pos hs]; rfl)
  · rw [dif_neg (by omega)]
    refine congrArg rb ?_
    congr 1
    · exact Fin.ext (by dsimp only; omega)
    · exact Fin.ext (by dsimp only; omega)
    · exact Fin.ext (by dsimp only; rw [if_neg hs]; omega)

/-- The place in the relative bias table of key row `r` and query column `q`. -/
def relIdx (r : Fin 640) (q : Fin 128) : Fin 257 :=
  ⟨if r.val + 127 - q.val < 512 then 0 else min (r.val + 127 - q.val - 511) 256, by split <;> omega⟩

/-- A query column's keys: the nine chunks up to its own. -/
def inBand (r : Fin 640) (q : Fin 128) : Prop := q.val / 64 * 64 ≤ r.val ∧ r.val < q.val / 64 * 64 + 576

instance (r : Fin 640) (q : Fin 128) : Decidable (inBand r q) := inferInstanceAs (Decidable (_ ∧ _))

/-- The bias of layer 0: the relative bias table inside a query's band, minus infinity outside it. -/
theorem biasOut_apply (rb : Vec Ideal S2x8x257 .f32) (g : Fin 2) (h : Fin 4) (r : Fin 640) (q : Fin 128) :
    biasOut (windows rb) (ix3 (⟨g.val, by have := g.isLt; omega⟩ : Fin 4) r (col h q))
      = if inBand r q then rb (ix3 0 ⟨4 * g.val + h.val, by have := g.isLt; have := h.isLt; omega⟩ (relIdx r q)) else (⊥ : EReal) := by
  have hr := r.isLt
  have hq := q.isLt
  have hh := h.isLt
  have e (h' : Fin 4) (q' : Fin 128) (eh : h' = h) (eq : q' = q) (x : Vec Ideal S1x24x128 .f32) : biasEl x h' r q' = biasEl x h r q := by
    rw [eh, eq]
  unfold biasOut biasBlk
  refine (e _ _ (Fin.ext ?_) (Fin.ext ?_) _).trans ?_
  · show (h.val * 128 + q.val) / 128 = h.val
    omega
  · show (h.val * 128 + q.val) % 128 = q.val
    omega
  unfold biasEl
  by_cases hc : inBand r q
  · refine Eq.trans ?_ (if_pos hc).symm
    refine (if_pos hc).trans ?_
    unfold inBand at hc
    refine (windows_apply rb g h _ _ (winRow r q) (r.val + 127 - q.val) rfl (winRow_lt r q) ?_ (by omega)).trans ?_
    · show winRow r q * 128 + 127 = r.val + 127 - q.val + (q.val + 128 - r.val % 128) % 128
      unfold winRow
      split <;> omega
    · refine congrArg (fun i => rb (ix3 0 _ i)) (Fin.ext ?_)
      show _ = if r.val + 127 - q.val < 512 then 0 else min (r.val + 127 - q.val - 511) 256
      dsimp only
      split <;> omega
  · exact (if_neg hc).trans (if_neg hc).symm

end Cert.KernelIdeal.Attn
-- ==== Proof.KRun.lean ====
/- THE KERNEL'S RUN. The launch of the generated frame, keeping also what the attention's array holds (`frame_value`), and
   that array as the attention of the four arguments (`run`). -/
module

public import proofs.«01_k».proof.Proof.Blocks
public import proofs.«01_k».proof.Proof.Prep

@[expose] public section

set_option maxRecDepth 16384

noncomputable section

namespace Cert.KernelIdeal.Attn

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable {F : FTy → Type} [FloatOps F] [Named F]
variable (m : (ℓ : Loc nD τ sig) → Buf (Elt F) ℓ) (ρ : Dev nD → PrngReg)

set_option backward.isDefEq.respectTransparency.types false in
/-- The run: the attention's array is what the pipeline writes back, the arguments are unchanged, the counters end at zero. -/
theorem frame_value : θ_run defs (onTc (τ := τ) (main (F := F))) ⟨m, fun _ => 0, ρ⟩ (fun r => (∀ c : Dev nD,
      r.2.mem ((c.tc : Thread nD τ).loc main_v11) = (dat1 (V4 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v11 (by decide))).trans (W5_arr m ρ c 4),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end

variable (m : (ℓ : Loc nD τ sig) → Buf (Elt Ideal) ℓ) (ρ : Dev nD → PrngReg)

/-- The result array as a function of the four arguments. -/
theorem value (c : Dev nD) : (dat1 (V4 m ρ) c).arrAt 4 cfg1.N
    = attnOut (m ((c : Thread nD τ).loc main_arg0)) (m ((c : Thread nD τ).loc main_arg1)) (m ((c : Thread nD τ).loc main_arg2))
        (biasOut (windows (m ((c : Thread nD τ).loc main_arg3)))) := by
  have h0 : V4 m ρ c main_arg0 = m ((c : Thread nD τ).loc main_arg0) := W4_args m ρ c main_arg0 (by decide)
  have h1 : V4 m ρ c main_arg1 = m ((c : Thread nD τ).loc main_arg1) := W4_args m ρ c main_arg1 (by decide)
  have h2 : V4 m ρ c main_arg2 = m ((c : Thread nD τ).loc main_arg2) := W4_args m ρ c main_arg2 (by decide)
  have h3 : V4 m ρ c main_v10 = biasOut (windows (m ((c : Thread nD τ).loc main_arg3))) := by
    rw [← windows_run m ρ c, ← bias_array]
    exact W4_arr m ρ c 1
  rw [attn_array, h0, h1, h2, h3]

end Cert.KernelIdeal.Attn
-- ==== Proof.Gathers.lean ====
/- THE REFERENCE'S GATHERS. A chunk's keys and values are rows of the padded arrays, and the bias is an entry of the relative
   bias table: each gather read at an index. -/
module

public import proofs.«01_k».proof.Proof.Gen.ReferenceIdeal.Read
public import Idealize.ShloMosaic.Lib.Pointwise

@[expose] public section

set_option maxRecDepth 16384

noncomputable section

namespace Cert.ReferenceIdeal.Attn

open Idealize.ShloMosaic Idealize.ShloMosaic.TcCoe Idealize.ShloMosaic.Pointwise Cert.ReferenceIdeal Cert.ReferenceIdeal.Gen Cert.ReferenceIdeal.Read

variable {α : Type}

/-- A row number small enough reads back from its word and is not clamped. -/
theorem clamp_word (r N : Nat) (hN : N < 2 ^ 30) (h : r ≤ N) : min (BitVec.ofNat 32 r).toInt.toNat N = r := by
  have : (BitVec.ofNat 32 r).toInt = r := by
    rw [BitVec.toInt_eq_toNat_of_lt (by rw [BitVec.toNat_ofNat]; omega), BitVec.toNat_ofNat, Nat.mod_eq_of_lt (by omega)]
  rw [this]
  simp [h]

/-- A chunk's rows out of the padded keys or values. -/
theorem gather_band (x : S8x2560x8x64.Idx → α) (idx : IVec S32x576x1 32) (b : Fin 8) (n : Fin 32) (j : Fin 576) (h : Fin 8) (d : Fin 64)
    (r : Fin 2560) (hr : idx (ix3 n j 0) = BitVec.ofNat 32 r.val) :
    Host.gather gather_S8x2560x8x64_S32x576x1_S8x32x576x8x64_034_1_n_n_1_2_81864 x idx (ix5 b n j h d) = x (ix4 b r h d) := by
  unfold Host.gather
  refine congrArg x (funext fun a => Fin.ext ?_)
  match a with
  | ⟨0, _⟩ => show 0 + 0 + b.val = b.val; omega
  | ⟨2, _⟩ => show 0 + 0 + h.val = h.val; omega
  | ⟨3, _⟩ => show 0 + 0 + d.val = d.val; omega
  | ⟨1, _⟩ =>
    show min (idx _).toInt.toNat 2559 + 0 + 0 = r.val
    refine (congrArg (fun w : BitVec 32 => min w.toInt.toNat 2559 + 0 + 0) ((congrArg idx ?_).trans hr)).trans ?_
    · funext b'
      match b' with
      | ⟨0, _⟩ => rfl
      | ⟨1, _⟩ => rfl
      | ⟨2, _⟩ => rfl
    · exact clamp_word r.val 2559 (by omega) (by have := r.isLt; omega)

/-- An entry of the relative bias table. -/
theorem gather_rel (x : S8x257.Idx → α) (idx : IVec S64x576x1 32) (h : Fin 8) (q : Fin 64) (j : Fin 576)
    (r : Fin 257) (hr : idx (ix3 q j 0) = BitVec.ofNat 32 r.val) :
    Host.gather gather_S8x257_S64x576x1_S8x64x576_0_1_n_n_1_2_81 x idx (ix3 h q j) = x (ix2 h r) := by
  unfold Host.gather
  refine congrArg x (funext fun a => Fin.ext ?_)
  match a with
  | ⟨0, _⟩ => show 0 + 0 + h.val = h.val; omega
  | ⟨1, _⟩ =>
    show min (idx _).toInt.toNat 256 + 0 + 0 = r.val
    refine (congrArg (fun w : BitVec 32 => min w.toInt.toNat 256 + 0 + 0) ((congrArg idx ?_).trans hr)).trans ?_
    · funext b'
      match b' with
      | ⟨0, _⟩ => rfl
      | ⟨1, _⟩ => rfl
      | ⟨2, _⟩ => rfl
    · exact clamp_word r.val 256 (by omega) (by have := r.isLt; omega)

end Cert.ReferenceIdeal.Attn
-- ==== Proof.RefValue.lean ====
/- THE REFERENCE, ELEMENT BY ELEMENT: scores of a chunk's queries against its nine chunks of keys, their softmax, and the
   weighted sum of the values (`out_apply`). -/
module

public import proofs.«01_k».proof.Proof.Gathers

@[expose] public section

set_option maxRecDepth 16384

noncomputable section

namespace Cert.ReferenceIdeal.Attn

open Idealize.ShloMosaic Idealize.ShloMosaic.TcCoe Idealize.ShloMosaic.Pointwise Cert.ReferenceIdeal Cert.ReferenceIdeal.Gen Cert.ReferenceIdeal.Read

/-- Row `j` of chunk `n`'s band, in the padded array. -/
def keyRow (n : Fin 32) (j : Fin 576) : Fin 2560 := ⟨64 * n.val + j.val, by have := n.isLt; have := j.isLt; omega⟩

/-- The column of feature `d` of head `h`. -/
def headCol (h : Fin 8) (d : Fin 64) : Fin 512 := ⟨h.val * 64 + d.val, by have := h.isLt; have := d.isLt; omega⟩

/-- An element of the padded keys or values. -/
def padded (x : Vec Ideal S8x2048x512 .bf16) (b : Fin 8) (u : Fin 2560) (h : Fin 8) (d : Fin 64) : EReal :=
  if u.val < 512 then 0 else x (ix3 b ⟨u.val - 512, by have := u.isLt; omega⟩ (headCol h d))

/-- The place in the relative bias table of query `q` and key `j` of a chunk. -/
def relPos (q : Fin 64) (j : Fin 576) : Fin 257 := ⟨min (j.val + 64 - q.val - 448) 256, by omega⟩

theorem row_word (n : Fin 32) (j : Fin 576) :
    IntOp.addi (IntOp.muli (BitVec.ofNat 32 n.val) 64#32) (BitVec.ofNat 32 j.val) = BitVec.ofNat 32 (keyRow n j).val := by
  show BitVec.ofNat 32 n.val * BitVec.ofNat 32 64 + BitVec.ofNat 32 j.val = BitVec.ofNat 32 (64 * n.val + j.val)
  rw [← BitVec.ofNat_mul, ← BitVec.ofNat_add, mul_comm]

theorem row_nonneg (u : Fin 2560) : IntOp.cmpi .slt (BitVec.ofNat 32 u.val) 0#32 = 0#1 := by
  revert u
  decide +kernel

theorem row_valid (u : Fin 2560) : IntOp.cmpi .sge (BitVec.ofNat 32 u.val) 512#32 = if 512 ≤ u.val then 1#1 else 0#1 := by
  revert u
  decide +kernel

theorem v17_apply (n : Fin 32) (j : Fin 576) : val_main_v17 (F := Ideal) (ix2 n j) = BitVec.ofNat 32 (keyRow n j).val := by
  rw [← row_word]
  unfold val_main_v17 val_main_v16 val_main_v15 val_main_v14 val_main_v13 val_main_v12 val_main_v11 val_main_v10 val_main_v9 val_main_c_1
  pointwise

theorem sel_zero' {α : Type} (x y : α) : Scalar.select 0#1 x y = y := rfl

theorem v23_apply (n : Fin 32) (j : Fin 576) : val_main_v23 (F := Ideal) (ix3 n j 0) = BitVec.ofNat 32 (keyRow n j).val := by
  unfold val_main_v23 val_main_v22 val_main_v19 val_main_v18 val_main_c_2
  pointwise
  rw [v17_apply, row_nonneg, sel_zero']

theorem v30_apply (n : Fin 32) (j : Fin 576) : val_main_v30 (F := Ideal) (ix3 n j 0) = BitVec.ofNat 32 (keyRow n j).val := by
  unfold val_main_v30 val_main_v29 val_main_v26 val_main_v25 val_main_c_4
  pointwise
  rw [v17_apply, row_nonneg, sel_zero']

theorem v56_apply (n : Fin 32) (j : Fin 576) : val_main_v56 (F := Ideal) (ix2 n j) = if 512 ≤ (keyRow n j).val then 1#1 else 0#1 := by
  rw [← row_valid]
  unfold val_main_v56 val_main_v55 val_main_c_12
  pointwise
  rw [v17_apply]

theorem pad_word : (FloatOps.sitofp .f32 0#32 : Ideal .f32) = (0 : EReal) := by
  show (((0#32 : BitVec 32).toInt : ℝ) : EReal) = 0
  simp

/-- A row of the padded keys. -/
theorem v7_apply (x1 : Vec Ideal S8x2048x512 .bf16) (b : Fin 8) (u : Fin 2560) (h : Fin 8) (d : Fin 64) :
    val_main_v7 (F := Ideal) x1 (ix4 b u h d) = padded x1 b u h d := by
  have := u.isLt
  unfold val_main_v7 val_main_v4 val_main_v3 val_main_call0_v0 val_main_c padded
  pointwise
  rw [pad_word]
  by_cases hu : u.val < 512
  · rw [if_pos hu, dif_neg (by omega)]
  · rw [if_neg hu, dif_pos (by omega)]
    rfl

theorem v8_apply (x2 : Vec Ideal S8x2048x512 .bf16) (b : Fin 8) (u : Fin 2560) (h : Fin 8) (d : Fin 64) :
    val_main_v8 (F := Ideal) x2 (ix4 b u h d) = padded x2 b u h d := by
  have := u.isLt
  unfold val_main_v8 val_main_v6 val_main_v5 val_main_call1_v0 val_main_c_0 padded
  pointwise
  rw [pad_word]
  by_cases hu : u.val < 512
  · rw [if_pos hu, dif_neg (by omega)]
  · rw [if_neg hu, dif_pos (by omega)]
    rfl

theorem v24_apply (x1 : Vec Ideal S8x2048x512 .bf16) (b : Fin 8) (n : Fin 32) (j : Fin 576) (h : Fin 8) (d : Fin 64) :
    val_main_v24 (F := Ideal) x1 (ix5 b n j h d) = padded x1 b (keyRow n j) h d := by
  unfold val_main_v24
  rw [gather_band _ _ b n j h d (keyRow n j) (v23_apply n j), v7_apply]

theorem v31_apply (x2 : Vec Ideal S8x2048x512 .bf16) (b : Fin 8) (n : Fin 32) (j : Fin 576) (h : Fin 8) (d : Fin 64) :
    val_main_v31 (F := Ideal) x2 (ix5 b n j h d) = padded x2 b (keyRow n j) h d := by
  unfold val_main_v31
  rw [gather_band _ _ b n j h d (keyRow n j) (v30_apply n j), v8_apply]

/-- The distance's word: it depends on the difference of key and query alone. -/
theorem rel_word (q : Fin 64) (j : Fin 576) :
    IntOp.subi (IntOp.subi (BitVec.ofNat 32 j.val) 512#32) (BitVec.ofNat 32 q.val) = BitVec.ofNat 32 (j.val + 64 - q.val) - 576#32 := by
  have hq := q.isLt
  have e : BitVec.ofNat 32 (j.val + 64) = BitVec.ofNat 32 (j.val + 64 - q.val) + BitVec.ofNat 32 q.val := by
    rw [← BitVec.ofNat_add]
    congr 1
    omega
  rw [BitVec.ofNat_add] at e
  show BitVec.ofNat 32 j.val - 512#32 - BitVec.ofNat 32 q.val = _
  rw [show BitVec.ofNat 32 (j.val + 64 - q.val) = BitVec.ofNat 32 j.val + BitVec.ofNat 32 64 - BitVec.ofNat 32 q.val from by rw [e, BitVec.add_sub_cancel]]
  generalize BitVec.ofNat 32 j.val = a
  generalize BitVec.ofNat 32 q.val = c
  have h : (512#32 : BitVec 32) = 576#32 - BitVec.ofNat 32 64 := by decide
  rw [h]
  simp only [BitVec.sub_eq_add_neg, BitVec.neg_add, BitVec.neg_neg]
  ac_rfl

theorem clip_word (k : Fin 640) :
    (let w := IntOp.addi (IntOp.minsi 128#32 (IntOp.maxsi (-128#32) (BitVec.ofNat 32 k.val - 576#32))) 128#32
     Scalar.select (IntOp.cmpi .slt w 0#32) (IntOp.addi w 257#32) w) = BitVec.ofNat 32 (min (k.val - 448) 256) := by
  revert k
  decide +kernel

theorem v53_apply (q : Fin 64) (j : Fin 576) : val_main_v53 (F := Ideal) (ix3 q j 0) = BitVec.ofNat 32 (relPos q j).val := by
  have hq := q.isLt
  have hj := j.isLt
  refine Eq.trans ?_ (clip_word ⟨j.val + 64 - q.val, by omega⟩)
  dsimp only
  rw [← rel_word]
  unfold val_main_v53 val_main_v52 val_main_v51 val_main_v50 val_main_v49 val_main_v48 val_main_v45 val_main_v44 val_main_v43 val_main_call2_v4
    val_main_call2_v3 val_main_call2_v2 val_main_call2_v1 val_main_call2_v0 val_main_v42 val_main_v41 val_main_v40 val_main_v39 val_main_v38
    val_main_v37 val_main_v36 val_main_v35 val_main_v34
  pointwise
  rfl

theorem v54_apply (x3 : Vec Ideal S2x8x257 .f32) (h : Fin 8) (q : Fin 64) (j : Fin 576) :
    val_main_v54 (F := Ideal) x3 (ix3 h q j) = x3 (ix3 0 h (relPos q j)) := by
  unfold val_main_v54
  rw [gather_rel _ _ h q j (relPos q j) (v53_apply q j)]
  unfold val_main_v47 val_main_v46
  pointwise

/-- A chunk's query: its tile of queries and its column there. -/
def qTile (n : Fin 32) : Fin 16 := ⟨n.val / 2, by have := n.isLt; omega⟩
def qCol (n : Fin 32) (q : Fin 64) : Fin 128 := ⟨n.val % 2 * 64 + q.val, by have := q.isLt; omega⟩

variable (x0 : Vec Ideal S8x16x512x128 .bf16) (x1 x2 : Vec Ideal S8x2048x512 .bf16) (x3 : Vec Ideal S2x8x257 .f32)

/-- A score. -/
def score (b : Fin 8) (n : Fin 32) (h : Fin 8) (q : Fin 64) (j : Fin 576) : EReal :=
  if 512 ≤ (keyRow n j).val then
    (∑ d : Fin 64, x0 (ix4 b (qTile n) (headCol h d) (qCol n q)) * padded x1 b (keyRow n j) h d) + x3 (ix3 0 h (relPos q j))
  else ⊥

theorem sel_ite' (P : Prop) [Decidable P] (x y : EReal) : Scalar.select (if P then 1#1 else 0#1) x y = if P then x else y := by
  split
  · rfl
  · rfl

/-- The bits of minus infinity read as minus infinity. -/
theorem neg_inf' : Ideal.ofBits .f32 0xFF800000#32 = ⊥ := by
  simp [Ideal.ofBits, Ideal.ieee]

/-- The mask is minus infinity. -/
theorem mask_ref : val_main_call3_v0 (F := Ideal) ix0 = (⊥ : EReal) := neg_inf'

theorem v61_apply (b : Fin 8) (n : Fin 32) (h : Fin 8) (q : Fin 64) (j : Fin 576) :
    val_main_v61 (F := Ideal) x0 x1 x3 (ix5 b n h q j) = score x0 x1 x3 b n h q j := by
  have hn := n.isLt
  have hq := q.isLt
  have hh := h.isLt
  unfold score
  rw [← sel_ite', ← v56_apply]
  unfold val_main_v61 val_main_v60 val_main_v59 val_main_v58 val_main_call3_v2 val_main_call3_v1 val_main_v57 val_main_v33 val_main_v32 val_main_v2
    val_main_v1 val_main_v0
  pointwise
  rw [v54_apply]
  simp only [v24_apply]
  rw [mask_ref]
  rfl

/-- The maximum of a query's scores. -/
def top (b : Fin 8) (n : Fin 32) (h : Fin 8) (q : Fin 64) : EReal := Finset.univ.fold max ⊥ fun j => score x0 x1 x3 b n h q j

theorem zero' : Ideal.ofBits .f32 0#32 = 0 := by
  simp [Ideal.ofBits, Ideal.ieee]

theorem v62_apply (b : Fin 8) (n : Fin 32) (h : Fin 8) (q : Fin 64) :
    val_main_v62 (F := Ideal) x0 x1 x3 (ix4 b n h q) = top x0 x1 x3 b n h q := by
  unfold val_main_v62 top
  pointwise
  simp only [v61_apply]
  rw [show val_main_cst_13 (F := Ideal) (Shape.Idx.first h_S_) = (⊥ : EReal) from neg_inf']

theorem v64_apply (b : Fin 8) (n : Fin 32) (h : Fin 8) (q : Fin 64) :
    val_main_v64 (F := Ideal) x0 x1 x3 (ix4 b n h q) = top x0 x1 x3 b n h q := by
  rw [val_main_v64_apply, val_main_v63_apply, v62_apply, val_main_cst_14_apply]
  generalize top x0 x1 x3 b n h q = t
  refine (congrArg (fun z : EReal => max z t) neg_inf').trans ?_
  exact max_eq_right bot_le

theorem v68_apply (b : Fin 8) (n : Fin 32) (h : Fin 8) (q : Fin 64) (j : Fin 576) :
    val_main_v68 (F := Ideal) x0 x1 x3 (ix5 b n h q j) = Ideal.exp (score x0 x1 x3 b n h q j - top x0 x1 x3 b n h q) := by
  unfold val_main_v68 val_main_v67 val_main_v66 val_main_v65
  pointwise
  rw [v61_apply, v64_apply]

theorem v69_apply (b : Fin 8) (n : Fin 32) (h : Fin 8) (q : Fin 64) :
    val_main_v69 (F := Ideal) x0 x1 x3 (ix4 b n h q) = ∑ j, Ideal.exp (score x0 x1 x3 b n h q j - top x0 x1 x3 b n h q) := by
  unfold val_main_v69
  pointwise
  simp only [v68_apply]
  rw [show val_main_cst_15 (F := Ideal) (Shape.Idx.first h_S_) = (0 : EReal) from zero', zero_add]

theorem v72_apply (b : Fin 8) (n : Fin 32) (h : Fin 8) (q : Fin 64) (j : Fin 576) :
    val_main_v72 (F := Ideal) x0 x1 x3 (ix5 b n h q j)
      = Ideal.div (Ideal.exp (score x0 x1 x3 b n h q j - top x0 x1 x3 b n h q)) (∑ j, Ideal.exp (score x0 x1 x3 b n h q j - top x0 x1 x3 b n h q)) := by
  unfold val_main_v72 val_main_v71 val_main_v70
  pointwise
  rw [v68_apply, v69_apply]

/-- An element of the reference's result. -/
theorem out_apply (b : Fin 8) (s : Fin 2048) (f : Fin 512) (n : Fin 32) (q : Fin 64) (h : Fin 8) (d : Fin 64)
    (hs : s.val = 64 * n.val + q.val) (hf : f.val = 64 * h.val + d.val) :
    val_main_v76 (F := Ideal) x0 x1 x2 x3 (ix3 b s f)
      = ∑ j, padded x2 b (keyRow n j) h d
          * Ideal.div (Ideal.exp (score x0 x1 x3 b n h q j - top x0 x1 x3 b n h q)) (∑ j, Ideal.exp (score x0 x1 x3 b n h q j - top x0 x1 x3 b n h q)) := by
  have hq := q.isLt
  have hd := d.isLt
  have key (n' : Fin 32) (q' : Fin 64) (h' : Fin 8) (d' : Fin 64) (en : n' = n) (eq : q' = q) (eh : h' = h) (ed : d' = d) (j : Fin 576) :
      val_main_v31 (F := Ideal) x2 (ix5 b n' j h' d') * val_main_v72 (F := Ideal) x0 x1 x3 (ix5 b n' h' q' j)
        = padded x2 b (keyRow n j) h d
          * Ideal.div (Ideal.exp (score x0 x1 x3 b n h q j - top x0 x1 x3 b n h q)) (∑ j, Ideal.exp (score x0 x1 x3 b n h q j - top x0 x1 x3 b n h q)) := by
    subst en eq eh ed
    rw [v31_apply, v72_apply]
  unfold val_main_v76 val_main_v75 val_main_v74 val_main_v73
  pointwise
  refine Finset.sum_congr rfl fun j _ => key _ _ _ _ (Fin.ext ?_) (Fin.ext ?_) (Fin.ext ?_) (Fin.ext ?_) j
  all_goals (dsimp only; omega)

end Cert.ReferenceIdeal.Attn
-- ==== Proof.Softmax.lean ====
/- SOFTMAX OVER A LARGER SET OF KEYS. A row of scores `S` that is minus infinity off the image of `T`, a row with no
   plus infinity and some score above minus infinity, has the maximum, the weights and the normaliser of `T`; the
   normaliser is a positive real, so the weighted sum of any values may be divided before or after summing
   (`softmax_sum`). -/
module

public import Idealize.ShloMosaic.PureOps.Ideal
public import Mathlib.Data.EReal.Operations
public import Mathlib.Data.EReal.Inv

@[expose] public section

noncomputable section

namespace Cert.Attn

open Idealize.ShloMosaic

/-- A real number among the extended reals. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

theorem IsReal.of_ne {x : EReal} (ht : x ≠ ⊤) (hb : x ≠ ⊥) : IsReal x := ⟨x.toReal, (EReal.coe_toReal ht hb).symm⟩

theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

/-- Multiplication by a nonnegative real distributes over every sum. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => rw [Finset.sum_empty, Finset.sum_empty, zero_mul]
  | insert a s ha ih =>
    rw [Finset.sum_insert ha, Finset.sum_insert ha, ih, mul_comm (f a + _),
      EReal.left_distrib_of_nonneg_of_ne_top (by exact_mod_cast hc) (EReal.coe_ne_top c), mul_comm _ (f a), mul_comm (c : EReal)]

variable {m n : Nat}

theorem fold_max (f : Fin n → EReal) : Finset.univ.fold max ⊥ f = Finset.univ.sup f := rfl

/-- The maximum of the longer row. -/
theorem max_eq (e : Fin n → Fin m) (S : Fin m → EReal) (T : Fin n → EReal) (hS : ∀ j, S (e j) = T j)
    (hb : ∀ r, (∀ j, e j ≠ r) → S r = ⊥) : Finset.univ.fold max ⊥ S = Finset.univ.fold max ⊥ T := by
  rw [fold_max, fold_max]
  refine le_antisymm (Finset.sup_le fun r _ => ?_) (Finset.sup_le fun j _ => ?_)
  · by_cases h : ∃ j, e j = r
    · obtain ⟨j, rfl⟩ := h
      rw [hS]
      exact Finset.le_sup (f := T) (Finset.mem_univ j)
    · rw [hb r fun j hj => h ⟨j, hj⟩]
      exact bot_le
  · rw [← hS]
    exact Finset.le_sup (f := S) (Finset.mem_univ (e j))

theorem max_real (T : Fin n → EReal) (ht : ∀ j, T j ≠ ⊤) (o : Fin n) (ho : T o ≠ ⊥) : IsReal (Finset.univ.fold max ⊥ T) := by
  rw [fold_max]
  refine IsReal.of_ne (fun h => ?_) fun h => ho ?_
  · obtain ⟨j, -, hj⟩ := Finset.exists_mem_eq_sup Finset.univ ⟨o, Finset.mem_univ o⟩ T
    exact ht j (hj.symm.trans h)
  · exact le_bot_iff.1 (h ▸ Finset.le_sup (f := T) (Finset.mem_univ o))

/-- A weight is a nonnegative real, positive where the score is one. -/
theorem weight_real (x M : EReal) (hx : x ≠ ⊤) (hM : IsReal M) : ∃ w : ℝ, Ideal.exp (x - M) = w ∧ 0 ≤ w ∧ (x ≠ ⊥ → 0 < w) := by
  obtain ⟨a, rfl⟩ := hM
  by_cases hb : x = ⊥
  · subst hb
    exact ⟨0, by rw [EReal.bot_sub]; rfl, le_rfl, fun h => absurd rfl h⟩
  · obtain ⟨b, rfl⟩ := IsReal.of_ne hx hb
    exact ⟨Real.exp (b - a), by rw [← EReal.coe_sub]; rfl, (Real.exp_pos _).le, fun _ => Real.exp_pos _⟩

theorem sum_real {ι : Type} (s : Finset ι) (f : ι → EReal) (w : ι → ℝ) (h : ∀ i, f i = w i) : ∑ i ∈ s, f i = ((∑ i ∈ s, w i : ℝ) : EReal) := by
  classical
  induction s using Finset.induction_on with
  | empty => simp
  | insert a s ha ih => rw [Finset.sum_insert ha, Finset.sum_insert ha, ih, h, EReal.coe_add]

/-- The attention of a longer row of keys, divided after summing, is that of the shorter, divided before. -/
theorem softmax_sum (e : Fin n → Fin m) (he : Function.Injective e) (S V : Fin m → EReal) (T U : Fin n → EReal)
    (hS : ∀ j, S (e j) = T j) (hV : ∀ j, V (e j) = U j) (hb : ∀ r, (∀ j, e j ≠ r) → S r = ⊥)
    (ht : ∀ j, T j ≠ ⊤) (o : Fin n) (ho : T o ≠ ⊥) :
    (∑ r, Ideal.exp (S r - Finset.univ.fold max ⊥ S) * V r) * Ideal.div 1 (∑ r, Ideal.exp (S r - Finset.univ.fold max ⊥ S))
      = ∑ j, U j * Ideal.div (Ideal.exp (T j - Finset.univ.fold max ⊥ T)) (∑ j, Ideal.exp (T j - Finset.univ.fold max ⊥ T)) := by
  rw [max_eq e S T hS hb]
  have hM := max_real T ht o ho
  generalize Finset.univ.fold max ⊥ T = M at hM ⊢
  have h0 (r : Fin m) (hr : r ∉ Set.range e) : Ideal.exp (S r - M) = 0 := by
    rw [hb r fun j hj => hr ⟨j, hj⟩, EReal.bot_sub]
    rfl
  have hden : ∑ r, Ideal.exp (S r - M) = ∑ j, Ideal.exp (T j - M) :=
    (Fintype.sum_of_injective e he (fun j => Ideal.exp (T j - M)) (fun r => Ideal.exp (S r - M)) h0 fun j => by rw [hS]).symm
  have hnum : ∑ r, Ideal.exp (S r - M) * V r = ∑ j, Ideal.exp (T j - M) * U j :=
    (Fintype.sum_of_injective e he (fun j => Ideal.exp (T j - M) * U j) (fun r => Ideal.exp (S r - M) * V r)
      (fun r hr => by rw [h0 r hr, zero_mul]) fun j => by rw [hS, hV]).symm
  rw [hden, hnum]
  choose w hw hw0 hwp using fun j => weight_real (T j) M (ht j) hM
  have hpos : (0 : ℝ) < ∑ j, w j := Finset.sum_pos' (fun j _ => hw0 j) ⟨o, Finset.mem_univ o, hwp o ho⟩
  rw [sum_real Finset.univ (fun j => Ideal.exp (T j - M)) w hw, Ideal.div_coe hpos.ne', one_mul, ← sum_mul_real _ _ _ (one_div_pos.2 hpos).le]
  refine Finset.sum_congr rfl fun j _ => ?_
  rw [Ideal.div_coe hpos.ne', ← mul_assoc, mul_comm (U j)]

end Cert.Attn
-- ==== Proof.Equation.lean ====
/- THE EQUATION. The kernel's attention array and the reference's, both read at one element, are the softmax of one row of
   scores: the kernel's row has 640 keys of which the band's 576 are its own and the others carry weight zero. -/
module

public import proofs.«01_k».proof.Proof.KRun
public import proofs.«01_k».proof.Proof.RefValue
public import proofs.«01_k».proof.Proof.Softmax

@[expose] public section

set_option maxRecDepth 16384

noncomputable section

namespace Cert.Attn

open Idealize.ShloMosaic Idealize.ShloMosaic.TcCoe Idealize.ShloMosaic.Tactic
open Cert.KernelIdeal.Attn (attnOut attnOut_at tile_apply blockOf qBlk kBlk tBlk tileOf rowOf feat col bandRow padRow weight biasOut windows inBand relIdx biasOut_apply)
open Cert.ReferenceIdeal.Attn (keyRow headCol padded relPos qTile qCol top out_apply)

variable (q : Vec Ideal Cert.KernelIdeal.S8x16x512x128 .bf16) (k v : Vec Ideal Cert.KernelIdeal.S8x2048x512 .bf16) (rb : Vec Ideal Cert.KernelIdeal.S2x8x257 .f32)

/-- The head of lane group `g`'s position `h`. -/
def head (g : Fin 2) (h : Fin 4) : Fin 8 := ⟨4 * g.val + h.val, by have := g.isLt; have := h.isLt; omega⟩

/-- The chunk of a tile's row. -/
def chunk (m : Fin 16) (i : Fin 128) : Fin 32 := ⟨2 * m.val + i.val / 64, by have := m.isLt; have := i.isLt; omega⟩

/-- A tile's row inside its chunk. -/
def within (i : Fin 128) : Fin 64 := ⟨i.val % 64, by omega⟩

/-- The row of the tile's window that holds key `j` of the chunk's band. -/
def place (i : Fin 128) (j : Fin 576) : Fin 640 := ⟨i.val / 64 * 64 + j.val, by have := i.isLt; have := j.isLt; omega⟩

theorem place_injective (i : Fin 128) : Function.Injective (place i) := by
  intro a b h
  have := congrArg Fin.val h
  simp only [place] at this
  exact Fin.ext (by omega)

/-- A key or value as the kernel's block holds it, as the reference's padded array holds it. -/
theorem padRow_eq (x : Vec Ideal Cert.KernelIdeal.S8x2048x512 .bf16) (b : Fin 8) (g : Fin 2) (m : Fin 16) (h : Fin 4) (i : Fin 128) (j : Fin 576) (d : Fin 64) :
    padRow (kBlk x b g) (bandRow m (place i j)) (feat h d) = padded x b (keyRow (chunk m i) j) (head g h) d := by
  have e : bandRow m (place i j) = keyRow (chunk m i) j := Fin.ext (by simp only [bandRow, place, keyRow, chunk]; omega)
  rw [e]
  unfold padRow padded
  by_cases hu : (keyRow (chunk m i) j).val < 512
  · exact (dif_pos hu).trans (if_pos hu).symm
  · refine (dif_neg hu).trans (Eq.trans ?_ (if_neg hu).symm)
    exact congrArg x (funext fun a => match a with
      | 0 => rfl
      | 1 => rfl
      | 2 => Fin.ext (by show g.val * 256 + (h.val * 64 + d.val) = (4 * g.val + h.val) * 64 + d.val; omega))

/-- A key outside the chunk's band has score minus infinity. -/
theorem score_out (b : Fin 8) (g : Fin 2) (m : Fin 16) (h : Fin 4) (i : Fin 128) (r : Fin 640) (hr : ∀ j, place i j ≠ r) :
    Cert.KernelIdeal.Attn.score (qBlk q b g) (kBlk k b g) (tBlk (biasOut (windows rb)) g) m h i r = ⊥ := by
  have hb : ¬ inBand r i := by
    intro hb
    obtain ⟨h1, h2⟩ := hb
    exact hr ⟨r.val - i.val / 64 * 64, by omega⟩ (Fin.ext (by show i.val / 64 * 64 + (r.val - i.val / 64 * 64) = r.val; omega))
  unfold Cert.KernelIdeal.Attn.score
  split
  · rfl
  · have e : tBlk (biasOut (windows rb)) g (ix3 0 r (col h i)) = (⊥ : EReal) := (biasOut_apply rb g h r i).trans (if_neg hb)
    rw [e, EReal.add_bot]

/-- A key of the band has the reference's score. -/
theorem score_in (b : Fin 8) (g : Fin 2) (m : Fin 16) (h : Fin 4) (i : Fin 128) (j : Fin 576) :
    Cert.KernelIdeal.Attn.score (qBlk q b g) (kBlk k b g) (tBlk (biasOut (windows rb)) g) m h i (place i j)
      = Cert.ReferenceIdeal.Attn.score q k rb b (chunk m i) (head g h) (within i) j := by
  have hi := i.isLt
  have hj := j.isLt
  have hm := m.isLt
  have hb : inBand (place i j) i := ⟨by show _ ≤ i.val / 64 * 64 + j.val; omega, by show i.val / 64 * 64 + j.val < _; omega⟩
  have e : tBlk (biasOut (windows rb)) g (ix3 0 (place i j) (col h i)) = rb (ix3 0 (head g h) (relPos (within i) j)) := by
    refine (biasOut_apply rb g h (place i j) i).trans ((if_pos hb).trans ?_)
    refine congrArg rb (congrArg (ix3 0 (head g h)) (Fin.ext ?_))
    simp only [relIdx, place, relPos, within]
    by_cases hc : i.val / 64 * 64 + j.val + 127 - i.val < 512
    · exact (if_pos hc).trans (by omega)
    · exact (if_neg hc).trans (by omega)
  unfold Cert.KernelIdeal.Attn.score Cert.ReferenceIdeal.Attn.score
  by_cases hk : 128 * m.val + (place i j).val < 512
  · refine (if_pos hk).trans (Eq.trans ?_ (if_neg ?_).symm)
    · rfl
    · simp only [keyRow, chunk]
      simp only [place] at hk
      omega
  · refine (if_neg hk).trans (Eq.trans ?_ (if_pos ?_).symm)
    · rw [e]
      refine congrArg (· + _) (Finset.sum_congr rfl fun d _ => ?_)
      rw [padRow_eq, mul_comm]
      refine congrArg (· * _) (congrArg q (funext fun a => match a with
        | 0 => rfl
        | 1 => Fin.ext (by show m.val = (2 * m.val + i.val / 64) / 2; omega)
        | 2 => Fin.ext (by show g.val * 256 + (h.val * 64 + d.val) = (4 * g.val + h.val) * 64 + d.val; omega)
        | 3 => Fin.ext (by show i.val = (2 * m.val + i.val / 64) % 2 * 64 + i.val % 64; omega)))
    · simp only [keyRow, chunk]
      simp only [place] at hk
      omega

/-- With finite queries, keys and bias table a score is real, or masked. -/
theorem score_real (hq : ∀ z, IsReal (q z)) (hk : ∀ z, IsReal (k z)) (hr : ∀ z, IsReal (rb z)) (b : Fin 8) (n : Fin 32) (h : Fin 8) (i : Fin 64) (j : Fin 576)
    (hj : 512 ≤ (keyRow n j).val) : IsReal (Cert.ReferenceIdeal.Attn.score q k rb b n h i j) := by
  unfold Cert.ReferenceIdeal.Attn.score
  rw [if_pos hj]
  refine (IsReal.sum _ _ fun d => (hq _).mul ?_).add (hr _)
  unfold padded
  split
  · exact ⟨0, rfl⟩
  · exact hk _

theorem score_ne_top (hq : ∀ z, IsReal (q z)) (hk : ∀ z, IsReal (k z)) (hr : ∀ z, IsReal (rb z)) (b : Fin 8) (n : Fin 32) (h : Fin 8) (i : Fin 64) (j : Fin 576) :
    Cert.ReferenceIdeal.Attn.score q k rb b n h i j ≠ ⊤ := by
  by_cases hj : 512 ≤ (keyRow n j).val
  · exact (score_real q k rb hq hk hr b n h i j hj).ne_top
  · unfold Cert.ReferenceIdeal.Attn.score
    rw [if_neg hj]
    exact bot_ne_top

/-- The two arrays at one element, named by its tile, row, lane group, head and feature. -/
theorem element (hq : ∀ z, IsReal (q z)) (hk : ∀ z, IsReal (k z)) (hr : ∀ z, IsReal (rb z)) (b : Fin 8) (g : Fin 2) (m : Fin 16) (h : Fin 4) (i : Fin 128) (d : Fin 64) :
    Cert.KernelIdeal.Attn.tile m (qBlk q b g) (kBlk k b g) (kBlk v b g) (tBlk (biasOut (windows rb)) g) (ix3 0 i (feat h d))
      = ∑ j, padded v b (keyRow (chunk m i) j) (head g h) d
          * Ideal.div (Ideal.exp (Cert.ReferenceIdeal.Attn.score q k rb b (chunk m i) (head g h) (within i) j - top q k rb b (chunk m i) (head g h) (within i)))
              (∑ j, Ideal.exp (Cert.ReferenceIdeal.Attn.score q k rb b (chunk m i) (head g h) (within i) j - top q k rb b (chunk m i) (head g h) (within i))) := by
  have hm := m.isLt
  have hi := i.isLt
  rw [tile_apply]
  refine softmax_sum (place i) (place_injective i)
    (Cert.KernelIdeal.Attn.score (qBlk q b g) (kBlk k b g) (tBlk (biasOut (windows rb)) g) m h i)
    (fun r => padRow (kBlk v b g) (bandRow m r) (feat h d))
    (Cert.ReferenceIdeal.Attn.score q k rb b (chunk m i) (head g h) (within i))
    (fun j => padded v b (keyRow (chunk m i) j) (head g h) d)
    (fun j => score_in q k rb b g m h i j) (fun j => padRow_eq v b g m h i j d) (fun r => score_out q k rb b g m h i r)
    (fun j => score_ne_top q k rb hq hk hr _ _ _ _ j) ⟨512, by omega⟩
    (score_real q k rb hq hk hr _ _ _ _ _ (by show 512 ≤ 64 * (2 * m.val + i.val / 64) + 512; omega)).ne_bot

/-- The two arrays are equal. -/
theorem arrays_eq (hq : ∀ z, IsReal (q z)) (hk : ∀ z, IsReal (k z)) (hr : ∀ z, IsReal (rb z)) :
    attnOut q k v (biasOut (windows rb)) = Cert.ReferenceIdeal.Read.val_main_v76 (F := Ideal) q k v rb := by
  funext z
  obtain ⟨b, s, f, rfl⟩ : ∃ (b : Fin 8) (s : Fin 2048) (f : Fin 512), z = ix3 b s f :=
    ⟨z 0, z 1, z 2, funext fun a => match a with | 0 => rfl | 1 => rfl | 2 => rfl⟩
  have hs := s.isLt
  have hf := f.isLt
  have hg : f.val / 256 < 2 := by omega
  have hh : f.val % 256 / 64 < 4 := by omega
  have hd : f.val % 64 < 64 := by omega
  rw [attnOut_at q k v _ (ix3 b s f) b ⟨f.val / 256, hg⟩ (ix3 0 s (feat ⟨f.val % 256 / 64, hh⟩ ⟨f.val % 64, hd⟩)) rfl rfl
    (by show f.val = f.val / 256 * 256 + (f.val % 256 / 64 * 64 + f.val % 64); omega)]
  rw [out_apply q k v rb b s f (chunk (tileOf s) (rowOf s)) (within (rowOf s)) (head ⟨f.val / 256, hg⟩ ⟨f.val % 256 / 64, hh⟩) ⟨f.val % 64, hd⟩
    (by show s.val = 64 * (2 * (s.val / 128) + s.val % 128 / 64) + s.val % 128 % 64; omega)
    (by show f.val = 64 * (4 * (f.val / 256) + f.val % 256 / 64) + f.val % 64; omega)]
  exact element q k v rb hq hk hr b _ (tileOf s) _ (rowOf s) _

end Cert.Attn

end
-- ==== Proof.Finite.lean ====
/- THE PRECONDITION. It says that the queries, the keys and the bias table are finite; at the extended reals, that each of
   their elements is a real number. -/
module

public import proofs.«01_k».proof.Pre_finite_scores
public import proofs.«01_k».proof.Proof.Softmax
public import Idealize.ShloMosaic.Lib.ReduceAll

@[expose] public section

set_option maxRecDepth 16384

noncomputable section

namespace Cert.Attn

open Idealize.ShloMosaic Cert.Pre_finite_scores
open Cert.Pre_finite_scores.Facts

theorem preFacts : Cert.Pre_finite_scores.Facts where
  bitsLt_bf16_f32 := by decide
  bcast_S_S8x16x512x128 := by decide
  reducesTo_S8x16x512x128_S_d0_1_2_3 := by decide
  h_S_ := by decide
  bcast_S_S8x2048x512 := by decide
  reducesTo_S8x2048x512_S_d0_1_2 := by decide
  bcast_S_S2x8x257 := by decide
  reducesTo_S2x8x257_S_d0_1_2 := by decide

/-- A number below infinity in absolute value is real. -/
theorem real_of_abs (x t : EReal) (ht : t = ⊤) (h : BitVec.ofBool (decide (max x (-x) < t)) = 1#1) : IsReal x := by
  subst ht
  have h' : max x (-x) < ⊤ := by
    by_contra hn
    rw [decide_eq_false hn] at h
    exact absurd h (by decide)
  refine IsReal.of_ne (fun e => ?_) (fun e => ?_)
  · rw [e] at h'; exact absurd h' (by simp)
  · rw [e] at h'; exact absurd h' (by simp)

theorem inf_bits : Ideal.ofBits .f32 0x7F800000#32 = ⊤ := by simp [Ideal.ofBits, Ideal.ieee]

/-- A conjunction of two bits is one only where both are. -/
theorem andi_one : ∀ a b : BitVec 1, IntOp.andi a b = 1#1 → a = 1#1 ∧ b = 1#1 := by decide

theorem finite [Cert.Pre_finite_scores.Facts] (q : FVec Ideal S8x16x512x128 .bf16) (k v : FVec Ideal S8x2048x512 .bf16) (rb : FVec Ideal S2x8x257 .f32)
    (h : fn q k v rb = fun _ => 1#1) : (∀ z, IsReal (q z)) ∧ (∀ z, IsReal (k z)) ∧ ∀ z, IsReal (rb z) := by
  have h0 := congrFun h (Shape.Idx.first h_S_)
  obtain ⟨h1, hr⟩ := andi_one _ _ h0
  obtain ⟨hq, hk⟩ := andi_one _ _ h1
  exact ⟨fun z => real_of_abs _ _ inf_bits (Host.reduce_andi_all _ _ _ _ _ hq z), fun z => real_of_abs _ _ inf_bits (Host.reduce_andi_all _ _ _ _ _ hk z),
    fun z => real_of_abs _ _ inf_bits (Host.reduce_andi_all _ _ _ _ _ hr z)⟩

end Cert.Attn

end
-- ==== Proof.MoeBody.lean ====
module
public import proofs.«01_k».proof.Proof.Gen.Kernel2Ideal.Skeleton
public import proofs.«01_k».proof.Proof.Gen.Kernel2Ideal.Loops
public import proofs.«01_k».proof.Proof.Gen.Kernel2Ideal.Launch
public import Idealize.ShloMosaic.Lib.Pipeline.Frame
public import Idealize.ShloMosaic.Lib.VecWindow
public import Mathlib.Tactic.IntervalCases
@[expose] public section
set_option maxRecDepth 16384
set_option Elab.async false
noncomputable section
namespace Cert.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

abbrev te : Memref sig .tc .smem S22 .i32 := Memref.whole main_arg1
abbrev tn : Memref sig .tc .smem S22 .i32 := Memref.whole main_arg2
abbrev sAcc : Memref sig .tc .vmem S2304x1024 .f32 := Memref.whole cc0_scratch0
abbrev sG : Memref sig .tc .vmem S1024x512 .bf16 := Memref.whole cc0_scratch1
abbrev sU : Memref sig .tc .vmem S1024x512 .bf16 := Memref.whole cc0_scratch2
abbrev sD : Memref sig .tc .vmem S512x1024 .bf16 := Memref.whole cc0_scratch3

/-- The unit count the body reads at a point. -/
abbrev wordAt (i : grid0.Coords) (T1 : S22.Idx → Elt F .i32) : BitVec 32 :=
  View.readAt (Elt F) (tn).view (Rect.unit (s := S22) (k0_off1 i) S1.size (k0_off1_inb i)).toLoadRect T1 (Shape.Idx.first (numel1_S1.symm ▸ Nat.one_pos))

instance (h : 0 < (k0_t1_loop 4#32).trips) : ClosedOff (k0_off2 4#32 ⟨0, h⟩) := ⟨![0, 0], by revert h; decide +kernel⟩
instance (h : 0 < (k0_t1_loop 4#32).trips) : ClosedOff (k0_off3 4#32 ⟨0, h⟩) := ⟨![0, 0], by revert h; decide +kernel⟩
instance (h : 0 < (k0_t1_loop 5#32).trips) : ClosedOff (k0_off2 5#32 ⟨0, h⟩) := ⟨![0, 0], by revert h; decide +kernel⟩
instance (h : 0 < (k0_t1_loop 5#32).trips) : ClosedOff (k0_off3 5#32 ⟨0, h⟩) := ⟨![0, 0], by revert h; decide +kernel⟩
instance (h : 0 < (k0_t1_loop 6#32).trips) : ClosedOff (k0_off2 6#32 ⟨0, h⟩) := ⟨![0, 0], by revert h; decide +kernel⟩
instance (h : 0 < (k0_t1_loop 6#32).trips) : ClosedOff (k0_off3 6#32 ⟨0, h⟩) := ⟨![0, 0], by revert h; decide +kernel⟩

theorem chk_of_le (n : Nat) (hn : n ≤ 9) : k0_chk1 (BitVec.ofNat 32 n) := by
  interval_cases n <;> decide +kernel

section Raw
variable (arg4 : Memref sig .tc .vmem S2304x512 .i32) (arg5 arg6 : Memref sig .tc .vmem S1x1024x512 .f32) (arg7 : Memref sig .tc .vmem S1x512x1024 .f32)
  (x0 : S2304x512.Idx → Elt F .i32) (x1 x2 : S1x1024x512.Idx → Elt F .f32) (x3 : S1x512x1024.Idx → Elt F .f32) (z : sAcc.view.ty.Contents (Elt F))

/-- A load of the tile's rows. -/
abbrev ldX (off size : Fin 2 → ℕ) (h : ∀ a, off a + size a ≤ S2304x512.size a) :=
  View.readAt (Elt F) arg4.view (Rect.unit (s := S2304x512) off size h).toLoadRect (arg4.view.rep x0)

/-- A load of the accumulator. -/
abbrev ldA (off size : Fin 2 → ℕ) (h : ∀ a, off a + size a ≤ S2304x1024.size a) :=
  View.readAt (Elt F) sAcc.view (Rect.unit (s := S2304x1024) off size h).toLoadRect z

/-- The load of a gate or value chunk. -/
abbrev ldW (x : S1x1024x512.Idx → Elt F .f32) (arg : Memref sig .tc .vmem S1x1024x512 .f32) :=
  View.readAt (Elt F) arg.view (Rect.unit (s := S1x1024x512) ![0, 0, 0] S1x1024x512.size inb_S1x1024x512_S1x1024x512_0_0_0).toLoadRect (arg.view.rep x)

/-- The load of a down chunk. -/
abbrev ldD := View.readAt (Elt F) arg7.view (Rect.unit (s := S1x512x1024) ![0, 0, 0] S1x512x1024.size inb_S1x512x1024_S1x512x1024_0_0_0).toLoadRect (arg7.view.rep x3)

/-- The gate chunk kept in scratch. -/
abbrev kG : Vec F S1024x512 .bf16 := sG.view.readCov [⟨Rect.unit (s := S1024x512) ![0, 0] S1024x512.size inb_S1024x512_S1024x512_0_0, k0_pay21 (ldW x1 arg5)⟩]
  (Rect.unit (s := S1024x512) ![0, 0] S1024x512.size inb_S1024x512_S1024x512_0_0).toLoadRect

/-- The value chunk kept in scratch. -/
abbrev kU : Vec F S1024x512 .bf16 := sU.view.readCov [⟨Rect.unit (s := S1024x512) ![0, 0] S1024x512.size inb_S1024x512_S1024x512_0_0, k0_pay22 (ldW x2 arg6)⟩]
  (Rect.unit (s := S1024x512) ![0, 0] S1024x512.size inb_S1024x512_S1024x512_0_0).toLoadRect

/-- The down chunk kept in scratch. -/
abbrev kD : Vec F S512x1024 .bf16 := sD.view.readCov [⟨Rect.unit (s := S512x1024) ![0, 0] S512x1024.size inb_S512x1024_S512x1024_0_0, k0_pay23 (ldD arg7 x3)⟩]
  (Rect.unit (s := S512x1024) ![0, 0] S512x1024.size inb_S512x1024_S512x1024_0_0).toLoadRect

/-- A store of 256 rows. -/
abbrev sB (ox oz : Fin 2 → ℕ) (h : ∀ a, ox a + S256x512.size a ≤ S2304x512.size a) (h' : ∀ a, oz a + S256x1024.size a ≤ S2304x1024.size a) : View.Piece (Elt F) S2304x1024 .f32 :=
  ⟨Rect.unit (s := S2304x1024) oz S256x1024.size h', k0_pay1 (kG arg5 x1) (kU arg6 x2) (kD arg7 x3) (ldX arg4 x0 ox S256x512.size h) (ldA z oz S256x1024.size h')⟩

/-- A store of 512 rows. -/
abbrev sT (o : ℕ) (h : ∀ a, (![o, 0] : Fin 2 → ℕ) a + S512x512.size a ≤ S2304x512.size a) (h' : ∀ a, (![o, 0] : Fin 2 → ℕ) a + S512x1024.size a ≤ S2304x1024.size a) : View.Piece (Elt F) S2304x1024 .f32 :=
  ⟨Rect.unit (s := S2304x1024) ![o, 0] S512x1024.size h', k0_pay26 (kG arg5 x1) (kU arg6 x2) (kD arg7 x3) (ldX arg4 x0 ![o, 0] S512x512.size h) (ldA z ![o, 0] S512x1024.size h')⟩

/-- A store of 1024 rows. -/
abbrev sL : View.Piece (Elt F) S2304x1024 .f32 :=
  ⟨Rect.unit (s := S2304x1024) ![0, 0] S1024x1024.size inb_S2304x1024_S1024x1024_0_0, k0_pay24 (kG arg5 x1) (kU arg6 x2) (kD arg7 x3) (ldX arg4 x0 ![0, 0] S1024x512.size inb_S2304x512_S1024x512_0_0) (ldA z ![0, 0] S1024x1024.size inb_S2304x1024_S1024x1024_0_0)⟩

/-- What one point leaves in the accumulator, as the point's stores. -/
def accRaw (n : ℕ) : sAcc.view.ty.Contents (Elt F) :=
  match n with
  | 0 => z
  | 1 => sAcc.view.writes (Elt F) z [sB arg4 arg5 arg6 arg7 x0 x1 x2 x3 z (k0_off8 1#32) (k0_off9 1#32) (by decide +kernel) (by decide +kernel)]
  | 2 => sAcc.view.writes (Elt F) z [sT arg4 arg5 arg6 arg7 x0 x1 x2 x3 z 0 (by decide) (by decide)]
  | 3 => sAcc.view.writes (Elt F) z [sB arg4 arg5 arg6 arg7 x0 x1 x2 x3 z (k0_off8 3#32) (k0_off9 3#32) (by decide +kernel) (by decide +kernel), sT arg4 arg5 arg6 arg7 x0 x1 x2 x3 z 0 (by decide) (by decide)]
  | 4 => sAcc.view.writes (Elt F) z [sL arg4 arg5 arg6 arg7 x0 x1 x2 x3 z]
  | 5 => sAcc.view.writes (Elt F) z [sB arg4 arg5 arg6 arg7 x0 x1 x2 x3 z (k0_off8 5#32) (k0_off9 5#32) (by decide +kernel) (by decide +kernel), sL arg4 arg5 arg6 arg7 x0 x1 x2 x3 z]
  | 6 => sAcc.view.writes (Elt F) z [sT arg4 arg5 arg6 arg7 x0 x1 x2 x3 z 1024 (by decide) (by decide), sL arg4 arg5 arg6 arg7 x0 x1 x2 x3 z]
  | 7 => sAcc.view.writes (Elt F) z [
      ⟨Rect.unit (s := S2304x1024) ![1536, 0] S256x1024.size inb_S2304x1024_S256x1024_1536_0, k0_pay32 (k0_pay15 (ldW x1 arg5)) (k0_pay16 (ldW x2 arg6)) (k0_pay17 (ldD arg7 x3)) (ldX arg4 x0 ![1536, 0] S256x512.size inb_S2304x512_S256x512_1536_0) (ldA z ![1536, 0] S256x1024.size inb_S2304x1024_S256x1024_1536_0)⟩,
      ⟨Rect.unit (s := S2304x1024) ![1024, 0] S512x1024.size inb_S2304x1024_S512x1024_1024_0, k0_pay31 (k0_pay15 (ldW x1 arg5)) (k0_pay16 (ldW x2 arg6)) (k0_pay17 (ldD arg7 x3)) (ldX arg4 x0 ![1024, 0] S512x512.size inb_S2304x512_S512x512_1024_0) (k0_pay19 (ldX arg4 x0 ![1024, 0] S512x512.size inb_S2304x512_S512x512_1024_0)) k0_pay20 (ldA z ![1024, 0] S512x1024.size inb_S2304x1024_S512x1024_1024_0)⟩,
      ⟨Rect.unit (s := S2304x1024) ![0, 0] S1024x1024.size inb_S2304x1024_S1024x1024_0_0, k0_pay18 (ldW x1 arg5) (ldW x2 arg6) (ldD arg7 x3) (ldX arg4 x0 ![0, 0] S1024x512.size inb_S2304x512_S1024x512_0_0) (ldA z ![0, 0] S1024x1024.size inb_S2304x1024_S1024x1024_0_0)⟩]
  | 8 => sAcc.view.writes (Elt F) z [
      ⟨Rect.unit (s := S2304x1024) ![1024, 0] S1024x1024.size inb_S2304x1024_S1024x1024_1024_0, k0_pay30 (k0_pay9 (ldW x1 arg5)) (k0_pay10 (ldW x2 arg6)) (k0_pay11 (ldD arg7 x3)) (ldX arg4 x0 ![1024, 0] S1024x512.size inb_S2304x512_S1024x512_1024_0) (k0_pay13 (ldX arg4 x0 ![1024, 0] S1024x512.size inb_S2304x512_S1024x512_1024_0)) k0_pay14 (ldA z ![1024, 0] S1024x1024.size inb_S2304x1024_S1024x1024_1024_0)⟩,
      ⟨Rect.unit (s := S2304x1024) ![0, 0] S1024x1024.size inb_S2304x1024_S1024x1024_0_0, k0_pay12 (ldW x1 arg5) (ldW x2 arg6) (ldD arg7 x3) (ldX arg4 x0 ![0, 0] S1024x512.size inb_S2304x512_S1024x512_0_0) (ldA z ![0, 0] S1024x1024.size inb_S2304x1024_S1024x1024_0_0)⟩]
  | _ => sAcc.view.writes (Elt F) sAcc.view.junk [
      ⟨Rect.unit (s := S2304x1024) ![2048, 0] S256x1024.size inb_S2304x1024_S256x1024_2048_0, k0_pay29 (k0_pay3 (ldW x1 arg5)) (k0_pay4 (ldW x2 arg6)) (k0_pay5 (ldD arg7 x3)) (ldX arg4 x0 ![2048, 0] S256x512.size inb_S2304x512_S256x512_2048_0) (ldA z ![2048, 0] S256x1024.size inb_S2304x1024_S256x1024_2048_0)⟩,
      ⟨Rect.unit (s := S2304x1024) ![1024, 0] S1024x1024.size inb_S2304x1024_S1024x1024_1024_0, k0_pay28 (k0_pay3 (ldW x1 arg5)) (k0_pay4 (ldW x2 arg6)) (k0_pay5 (ldD arg7 x3)) (ldX arg4 x0 ![1024, 0] S1024x512.size inb_S2304x512_S1024x512_1024_0) (k0_pay7 (ldX arg4 x0 ![1024, 0] S1024x512.size inb_S2304x512_S1024x512_1024_0)) k0_pay8 (ldA z ![1024, 0] S1024x1024.size inb_S2304x1024_S1024x1024_1024_0)⟩,
      ⟨Rect.unit (s := S2304x1024) ![0, 0] S1024x1024.size inb_S2304x1024_S1024x1024_0_0, k0_pay6 (ldW x1 arg5) (ldW x2 arg6) (ldD arg7 x3) (ldX arg4 x0 ![0, 0] S1024x512.size inb_S2304x512_S1024x512_0_0) (ldA z ![0, 0] S1024x1024.size inb_S2304x1024_S1024x1024_0_0)⟩]
end Raw

/-- The accumulator a point works on: zeros at the first chunk, what the point before left at the others. -/
def zeroed (i : grid0.Coords) (a : sAcc.view.ty.Contents (Elt F)) : sAcc.view.ty.Contents (Elt F) :=
  if hc : (Scalar.cmpi .ne (Scalar.extui (Scalar.cmpi .eq (BitVec.ofNat 32 (i 1).val) 0#32)) 0#32) = 1#1 then
    sAcc.view.writes (Elt F) a [⟨Rect.unit (s := S2304x1024) ![0, 0] S2304x1024.size inb_S2304x1024_S2304x1024_0_0, k0_pay27⟩]
  else a

/-- What one point leaves in its block of the result: the accumulator rounded at the last chunk, what was there at the others. -/
def outNew (i : grid0.Coords) (a : sAcc.view.ty.Contents (Elt F)) (y : S2304x1024.Idx → Elt F .bf16) : S2304x1024.Idx → Elt F .bf16 :=
  if k0_cond8 i = 1#1 then k0_pay2 (View.readAt (Elt F) sAcc.view (Rect.unit (s := S2304x1024) ![0, 0] S2304x1024.size inb_S2304x1024_S2304x1024_0_0).toLoadRect a) else y

theorem trips_one (n : ℕ) (h : n = 4 ∨ n = 5 ∨ n = 6) : (k0_t1_loop (BitVec.ofNat 32 n)).trips = 1 := by
  rcases h with rfl | rfl | rfl <;> decide +kernel

theorem trips_none (n : ℕ) (h : n = 4 ∨ n = 5 ∨ n = 6) : (k0_t2_loop (BitVec.ofNat 32 n)).trips = 0 := by
  rcases h with rfl | rfl | rfl <;> decide +kernel

theorem first_of_one {m : ℕ} (h : m = 1) (k : Fin m) : k = ⟨0, Nat.lt_of_lt_of_eq Nat.one_pos h.symm⟩ :=
  Fin.ext (Nat.lt_one_iff.mp (Nat.lt_of_lt_of_eq k.isLt h))

set_option backward.proofsInPublic true in
set_option maxHeartbeats 8000000 in
theorem body_run (c : Dev nD) (i : grid0.Coords) (arg4 : Memref sig .tc .vmem S2304x512 .i32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S2304x1024 .bf16) (harg8 : arg8.IsWhole) (T0 T1 : S22.Idx → Elt F .i32)
    (x0 : S2304x512.Idx → Elt F .i32) (x1 : S1x1024x512.Idx → Elt F .f32) (x2 : S1x1024x512.Idx → Elt F .f32) (x3 : S1x512x1024.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (y4 : S2304x1024.Idx → Elt F .bf16)
    (n : Nat) (hn : n ≤ 9) (hw : wordAt i T1 = BitVec.ofNat 32 n) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ ((te).view.loc (c : Thread nD τ) ↦{fullShare.right} T0)
          ∗ ((tn).view.loc (c : Thread nD τ) ↦{fullShare.right} T1)
          ∗ owns (c : Thread nD τ) arg8 fullShare y4
          ∗ ((sAcc).view.loc (c : Thread nD τ) ↦{fullShare} xa0)
          ∗ ((sG).view.loc (c : Thread nD τ) ↦{fullShare} xa1)
          ∗ ((sU).view.loc (c : Thread nD τ) ↦{fullShare} xa2)
          ∗ ((sD).view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ ((te).view.loc (c : Thread nD τ) ↦{fullShare.right} T0)
              ∗ ((tn).view.loc (c : Thread nD τ) ↦{fullShare.right} T1)
              ∗ owns (c : Thread nD τ) arg8 fullShare (outNew i (accRaw arg4 arg5 arg6 arg7 x0 x1 x2 x3 (zeroed i xa0) n) y4)
              ∗ (∃ a, ⌜a = accRaw arg4 arg5 arg6 arg7 x0 x1 x2 x3 (zeroed i xa0) n⌝ ∗ (sAcc).view.loc (c : Thread nD τ) ↦{fullShare} a)
              ∗ (∃ a, (sG).view.loc (c : Thread nD τ) ↦{fullShare} a)
              ∗ (∃ a, (sU).view.loc (c : Thread nD τ) ↦{fullShare} a)
              ∗ (∃ a, (sD).view.loc (c : Thread nD τ) ↦{fullShare} a)) -∗ K ⟨⟩))
          ⊢ wp frame (wpE (defs₀ (F := F)) Variants.none c none) Set.univ (cc0_moe_ffn i te (Memref.isWhole_whole _) tn (Memref.isWhole_whole _) arg4 harg4 arg5 harg5 arg6 harg6 arg7 harg7 arg8 harg8 sAcc (Memref.isWhole_whole _) sG (Memref.isWhole_whole _) sU (Memref.isWhole_whole _) sD (Memref.isWhole_whole _)) K := by
    unfold owns
    rw [cc0_moe_ffn_eq_skeleton]; unfold cc0_moe_ffn_skel
    rw [k0_part5_eq_skeleton]; unfold k0_part5_skel
    iintro ⟨H0, H1, H2, H3, HT0, HT1, ⟨%f4, %hf4, HO4⟩, HS0, HS1, HS2, HS3, Hk⟩
    obtain rfl := harg8.eq_unread hf4
    have hS0 : (sAcc).IsWhole := Memref.isWhole_whole _
    have hS1 : (sG).IsWhole := Memref.isWhole_whole _
    have hS2 : (sU).IsWhole := Memref.isWhole_whole _
    have hS3 : (sD).IsWhole := Memref.isWhole_whole _
    have hT0 : (te).IsWhole := Memref.isWhole_whole _
    have hT1 : (tn).IsWhole := Memref.isWhole_whole _
    sl_exec
    have hr : body_run.sl.r i T1 = BitVec.ofNat 32 n := hw
    rw [hr]
    clear hr
    interval_cases n
    all_goals
      sl_exec! (disch := decide +kernel)
    all_goals try
      first
        | sl_for1 (trips_one 4 (by decide))
        | sl_for1 (trips_one 5 (by decide))
        | sl_for1 (trips_one 6 (by decide))
    all_goals try
      intro k
      obtain rfl := first_of_one (trips_one _ (by decide)) k
      sl_exec (disch := decide +kernel)
      sl_for1_close
    all_goals try
      first
        | sl_for0 (trips_none 4 (by decide))
        | sl_for0 (trips_none 5 (by decide))
        | sl_for0 (trips_none 6 (by decide))
      sl_exec! (disch := decide +kernel)
    all_goals
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap; · iexact HO4
        ipureintro
        sl_unfold_run_names
        unfold outNew
        by_cases hc : k0_cond8 i = 1#1
        · rw [dif_pos hc, if_pos hc]
          exact View.read_writes_full _ _ _ _ _
        · rw [dif_neg hc, if_neg hc]
          exact harg8.read_unread _
      isplitl [HS0]
      · iexists _; isplitr; swap; · iexact HS0
        ipureintro
        sl_unfold_run_names
        rfl
      isplitl [HS1]; · iexists _; iexact HS1
      isplitl [HS2]; · iexists _; iexact HS2
      iexists _; iexact HS3
end Cert.Moe
-- ==== Proof.MoeRun.lean ====
module
public import proofs.«01_k».proof.Proof.MoeBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Tactic
public import Idealize.ShloMosaic.Adequacy
public import Idealize.ShloMosaic.Init
@[expose] public section
set_option maxRecDepth 16384
set_option Elab.async false
noncomputable section
/-! The pipeline of the expert call, for any tables in range: what a point leaves in the accumulator, the body at every
point, the launch and the final memory. -/
namespace Cert.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-- The proof's resource algebra. -/
abbrev EP : Emb (UR sig nD τ) 𝕄 := emb₁

variable (a : (pcfg0 (F := F)).Adm)
abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

/-- A point's coordinates. -/
abbrev crd (t : Fin (cfgA a).N) : grid0.Coords := (cfgA a).grid.coords t

abbrev ms0 (t : Fin (cfgA a).N) : Memref sig .tc .vmem S2304x512 .i32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S2304x1024 .bf16 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The unit count at a point. -/
def units (t : Fin (cfgA a).N) : ℕ := (wordAt (F := F) (crd a t) (a.1 1)).toNat

/-- The accumulator after a point, of the accumulator before it. -/
def accStep (c : Dev nD) (t : Fin (cfgA a).N) (z : sAcc.view.ty.Contents (Elt F)) : sAcc.view.ty.Contents (Elt F) :=
  accRaw (ms0 a t) (ms1 a t) (ms2 a t) (ms3 a t) (iblk a m ρ c (0 : Fin 5) t) (iblk a m ρ c (1 : Fin 5) t) (iblk a m ρ c (2 : Fin 5) t) (iblk a m ρ c (3 : Fin 5) t)
    (zeroed (crd a t) z) (units a t)

/-- The accumulator after each point. -/
def accT (c : Dev nD) : (n : ℕ) → n < (cfgA a).N → sAcc.view.ty.Contents (Elt F)
  | 0, h => accStep a m ρ c ⟨0, h⟩ sAcc.view.junk
  | n + 1, h => accStep a m ρ c ⟨n + 1, h⟩ (accT c n (Nat.lt_of_succ_lt h))

/-- The accumulator before each point. -/
def accB (c : Dev nD) (t : Fin ((cfgA a).N + 1)) : sAcc.view.ty.Contents (Elt F) :=
  if h : t.val = 0 then sAcc.view.junk else accT a m ρ c (t.val - 1) (by omega)

theorem accB_succ (c : Dev nD) (t : Fin (cfgA a).N) : accB a m ρ c t.succ = accStep a m ρ c t (accB a m ρ c t.castSucc) := by
  obtain ⟨n, hn⟩ := t
  cases n with
  | zero => rfl
  | succ n => rfl

/-- The rounded accumulator of a point. -/
def res (c : Dev nD) (t : Fin (cfgA a).N) : S2304x1024.Idx → Elt F .bf16 :=
  k0_pay2 (View.readAt (Elt F) sAcc.view (Rect.unit (s := S2304x1024) ![0, 0] S2304x1024.size inb_S2304x1024_S2304x1024_0_0).toLoadRect (accB a m ρ c t.succ))

/-- The invariant before a point: the accumulator known once a point has run, the kept chunks, the body's halves of the tables. -/
def Phi (c : Dev nD) (t : Fin ((cfgA a).N + 1)) : sProp 𝕄 :=
  iprop((∃ z, ⌜t.val ≠ 0 → z = accB a m ρ c t⌝ ∗ ((sAcc).view.loc (c : Thread nD τ) ↦{fullShare} z))
    ∗ (∃ z, (sG).view.loc (c : Thread nD τ) ↦{fullShare} z) ∗ (∃ z, (sU).view.loc (c : Thread nD τ) ↦{fullShare} z) ∗ (∃ z, (sD).view.loc (c : Thread nD τ) ↦{fullShare} z)
    ∗ ((te).view.loc (c : Thread nD τ) ↦{fullShare.right} a.1 0) ∗ ((tn).view.loc (c : Thread nD τ) ↦{fullShare.right} a.1 1))

/-- The proof data of the pipeline. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => res a m ρ c t
  Φ t := Phi a m ρ c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = res a m ρ c t := rfl

theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The result is written back at last chunks only. -/
theorem flush_idle : ∀ t : Fin grid0.N, k0_cond8 (grid0.coords t) ≠ 1#1 → Pipeline.Window.flushOf grid0 true cc0_transform_4 t = false := by
  decide +kernel

/-- The first point is a first chunk. -/
theorem first_zero (t : Fin grid0.N) (h : t.val = 0) :
    (Scalar.cmpi .ne (Scalar.extui (Scalar.cmpi .eq (BitVec.ofNat 32 ((grid0.coords t) 1).val) 0#32)) 0#32 : BitVec 1) = 1#1 := by
  revert t; decide +kernel

theorem read_acc (z : sAcc.view.ty.Contents (Elt F)) : sAcc.view.read (Elt F) z = z := rfl

theorem zeroed_first (i : grid0.Coords) (h : (Scalar.cmpi .ne (Scalar.extui (Scalar.cmpi .eq (BitVec.ofNat 32 (i 1).val) 0#32)) 0#32 : BitVec 1) = 1#1)
    (z : sAcc.view.ty.Contents (Elt F)) : zeroed i z = (k0_pay27 (F := F) : S2304x1024.Idx → Elt F .f32) := by
  have e := View.read_writes_full (Val := Elt F) sAcc.view z inb_S2304x1024_S2304x1024_0_0 (k0_pay27 (F := F)) []
  rw [read_acc] at e
  unfold zeroed
  rw [dif_pos h]
  exact e

/-- Before the first point nothing is known of the accumulator, and nothing need be. -/
theorem zeroed_before (c : Dev nD) (t : Fin (cfgA a).N) (z : sAcc.view.ty.Contents (Elt F)) (hz : t.castSucc.val ≠ 0 → z = accB a m ρ c t.castSucc) :
    zeroed (crd a t) z = zeroed (crd a t) (accB a m ρ c t.castSucc) := by
  by_cases h : t.val = 0
  · exact (zeroed_first (crd a t) (first_zero t h) z).trans (zeroed_first (crd a t) (first_zero t h) _).symm
  · rw [hz h]

/-- The body at point `t`, as the pipeline calls it. -/
abbrev bodyAt (t : Fin (cfgA a).N) : Prog (TpuEff nD τ sig (Elt F) Λ₀ .tc) PUnit :=
  cc0_moe_ffn (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in
theorem sound_body (hn : ∀ t : Fin (cfgA a).N, units a t ≤ 9) (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have hword : wordAt (F := F) (crd a t) (a.1 1) = BitVec.ofNat 32 (units a t) := by
    unfold units; rw [BitVec.ofNat_toNat, BitVec.setWidth_eq]
  by_cases h8 : k0_cond8 (crd a t) = 1#1
  · rewrite [show (cfgA a).idle (4 : Fin 5) ((cfgA a).grid.coords t) = false from by
      show (!(k0_cond8 (crd a t) == 1#1)) = false
      rw [h8]; rfl]
    simp only [before0, before1, before2, before3, after0, after1, after2, after3, after4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%z0, %hz0, HS0⟩, ⟨%z1, HS1⟩, ⟨%z2, HS2⟩, ⟨%z3, HS3⟩, HT0, HT1⟩, Ho, ⟨%d0, H0⟩, ⟨%d1, H1⟩, ⟨%d2, H2⟩, ⟨%d3, H3⟩, ⟨%d4, H4⟩⟩
    iapply (body_run c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) z0 z1 z2 z3 ((dats a m ρ 0 c).before (4 : Fin 5) t d4) (units a t) (hn t) hword _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    rw [zeroed_before a m ρ c t z0 hz0]
    iintro ⟨H0, H1, H2, H3, HT0, HT1, H4, ⟨%w0, %hw0, HS0⟩, ⟨%w1, HS1⟩, ⟨%w2, HS2⟩, ⟨%w3, HS3⟩⟩
    isplitl [HS0 HS1 HS2 HS3 HT0 HT1]
    · isplitl [HS0]
      · iexists _; isplitr; swap
        · iexact HS0
        · ipureintro; intro _; rw [accB_succ]; exact hw0
      isplitl [HS1]; · iexists _; iexact HS1
      isplitl [HS2]; · iexists _; iexact HS2
      isplitl [HS3]; · iexists _; iexact HS3
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold outNew
    rewrite [if_pos h8]
    unfold res
    rewrite [accB_succ]
    iexact H4
  · rewrite [show (cfgA a).idle (4 : Fin 5) ((cfgA a).grid.coords t) = true from by
      show (!(k0_cond8 (crd a t) == 1#1)) = true
      rw [beq_eq_false_iff_ne.mpr h8]; rfl, show ((cfgA a).win (4 : Fin 5)).flush t = false from flush_idle t h8]
    simp only [before0, before1, before2, before3, after0, after1, after2, after3, after4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%z0, %hz0, HS0⟩, ⟨%z1, HS1⟩, ⟨%z2, HS2⟩, ⟨%z3, HS3⟩, HT0, HT1⟩, Ho, ⟨%d0, H0⟩, ⟨%d1, H1⟩, ⟨%d2, H2⟩, ⟨%d3, H3⟩, ⟨%d4, H4⟩⟩
    iapply (body_run c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) z0 z1 z2 z3 ((dats a m ρ 0 c).before (4 : Fin 5) t d4) (units a t) (hn t) hword _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    rw [zeroed_before a m ρ c t z0 hz0]
    iintro ⟨H0, H1, H2, H3, HT0, HT1, H4, ⟨%w0, %hw0, HS0⟩, ⟨%w1, HS1⟩, ⟨%w2, HS2⟩, ⟨%w3, HS3⟩⟩
    isplitl [HS0 HS1 HS2 HS3 HT0 HT1]
    · isplitl [HS0]
      · iexists _; isplitr; swap
        · iexact HS0
        · ipureintro; intro _; rw [accB_succ]; exact hw0
      isplitl [HS1]; · iexists _; iexact HS1
      isplitl [HS2]; · iexists _; iexact HS2
      isplitl [HS3]; · iexists _; iexact HS3
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold outNew
    rewrite [if_neg h8]
    iexists d4
    iexact H4

/-- The library's body obligation, at every point. -/
theorem body_obligation (hn : ∀ t : Fin (cfgA a).N, units a t ≤ 9) (c : Dev nD) : BodyObligation (dats a m ρ 0 c) (defs₀ (F := F)) Variants.none () Set.univ := fun t => by
  rw [bigSep_W0]
  exact sound_body a m ρ hn c t

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd rfl h
  isplitl [HS1]; · iexists a1; iexact HS1
  isplitl [HS2]; · iexists a2; iexact HS2
  isplitl [HS3]; · iexists a3; iexact HS3
  isplitl [HT0]
  · iexact HT0
  iexact HT1

theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, HS1⟩, ⟨%a2, HS2⟩, ⟨%a3, HS3⟩, -, -⟩
  isplitr; · iempintro
  isplitl [HS0]
  · iexists a0; iexact HS0
  isplitl [HS1]
  · iexists a1; iexact HS1
  isplitl [HS2]
  · iexists a2; iexact HS2
  iexists a3; iexact HS3

/-- Every array at what the pipeline computes, the tables unchanged. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_main (hn : ∀ t : Fin (cfgA a).N, units a t ≤ 9) (hp : ∀ (c : Dev nD) (j : Fin 2), m ((c : Thread nD τ).loc (pre0.ref j)) = a.1 j) :
    θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ hn c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged, the counters at zero, the result at what the pipeline computes. -/
theorem final (hn : ∀ t : Fin (cfgA a).N, units a t ≤ 9) (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v0) = (dats a m ρ 0 c).arrAt (4 : Fin 5) (cfgA a).N)
      ∧ r.2.sem = fun _ => 0) :=
  (θ_run defs _ _).mono (fun _ h => ⟨fun c => ⟨((h.1 c).1 (0 : Fin 5)).trans ((dats a m ρ 0 c).arrAt_in (0 : Fin 5) rfl _), ((h.1 c).2 0).trans (hp c 0).symm, ((h.1 c).2 1).trans (hp c 1).symm, ((h.1 c).1 (1 : Fin 5)).trans ((dats a m ρ 0 c).arrAt_in (1 : Fin 5) rfl _), ((h.1 c).1 (2 : Fin 5)).trans ((dats a m ρ 0 c).arrAt_in (2 : Fin 5) rfl _), ((h.1 c).1 (3 : Fin 5)).trans ((dats a m ρ 0 c).arrAt_in (3 : Fin 5) rfl _), (h.1 c).1 (4 : Fin 5)⟩, h.2⟩) (run_main a m ρ hn hp)

end Cert.Moe
-- ==== Proof.MoeRange.lean ====
/- THE PRECONDITION, READ. The tables' entries are in range: an expert of the eight, and at most nine live units. -/
module

public import proofs.«01_k».proof.Pre_tables_in_range
public import proofs.«01_k».proof.Proof.Gen.Pre_tables_in_range
public import Idealize.ShloMosaic.Lib.ReduceAll
public import Idealize.ShloMosaic.Lib.WordCmp
public import Idealize.ShloMosaic.Lib.Pointwise

@[expose] public section

set_option maxRecDepth 16384

noncomputable section

namespace Cert.MoeRange

open Idealize.ShloMosaic Idealize.ShloMosaic.Pointwise Cert.Pre_tables_in_range
open Cert.Pre_tables_in_range.Facts

theorem andi_one : ∀ a b : BitVec 1, IntOp.andi a b = 1#1 → a = 1#1 ∧ b = 1#1 := by decide

theorem of_bit {p : Prop} [Decidable p] (h : BitVec.ofBool (decide p) = 1#1) : p := by
  by_contra hn
  rw [decide_eq_false hn] at h
  exact absurd h (by decide)

/-- A word not negative and below a bound, as a natural. -/
theorem nat_lt {w : BitVec 32} {n : ℕ} (hn : n < 2 ^ 31) (h0 : IntOp.cmpi .sge w 0#32 = 1#1) (h1 : IntOp.cmpi .slt w (BitVec.ofNat 32 n) = 1#1) : w.toNat < n := by
  have a : (0#32).toInt ≤ w.toInt := of_bit h0
  have b : w.toInt < (BitVec.ofNat 32 n).toInt := of_bit h1
  rw [BitVec.toInt_eq_toNat_of_lt (x := BitVec.ofNat 32 n) (by rw [BitVec.toNat_ofNat]; omega), BitVec.toNat_ofNat, Nat.mod_eq_of_lt (by omega)] at b
  rw [BitVec.toInt_eq_toNat_cond (x := w)] at a b
  have := w.isLt
  rw [show (0#32 : BitVec 32).toInt = 0 from rfl] at a
  split at b <;> omega

theorem nat_le {w : BitVec 32} {n : ℕ} (hn : n < 2 ^ 31) (h0 : IntOp.cmpi .sge w 0#32 = 1#1) (h1 : IntOp.cmpi .sle w (BitVec.ofNat 32 n) = 1#1) : w.toNat ≤ n := by
  have a : (0#32).toInt ≤ w.toInt := of_bit h0
  have b : w.toInt ≤ (BitVec.ofNat 32 n).toInt := of_bit h1
  rw [BitVec.toInt_eq_toNat_of_lt (x := BitVec.ofNat 32 n) (by rw [BitVec.toNat_ofNat]; omega), BitVec.toNat_ofNat, Nat.mod_eq_of_lt (by omega)] at b
  rw [BitVec.toInt_eq_toNat_cond (x := w)] at a b
  have := w.isLt
  rw [show (0#32 : BitVec 32).toInt = 0 from rfl] at a
  split at b <;> omega

theorem ranges {F : FTy → Type} [FloatOps F] [Cert.Pre_tables_in_range.Facts] (x : IVec S50688x512 32) (t n : IVec S22 32) (g u : FVec F S8x1024x3584 .f32) (d : FVec F S8x3584x1024 .f32)
    (h : fn (F := F) x t n g u d = fun _ => 1#1) : (∀ y, (t y).toNat < 8) ∧ ∀ y, (n y).toNat ≤ 9 := by
  have h0 := congrFun h (Shape.Idx.first h_S_)
  obtain ⟨h1, hd⟩ := andi_one _ _ h0
  obtain ⟨h2, hc⟩ := andi_one _ _ h1
  obtain ⟨ha, hb⟩ := andi_one _ _ h2
  exact ⟨fun y => nat_lt (n := 8) (by omega) (Host.reduce_andi_all _ _ _ _ _ ha y) (Host.reduce_andi_all _ _ _ _ _ hb y),
    fun y => nat_le (n := 9) (by omega) (Host.reduce_andi_all _ _ _ _ _ hc y) (Host.reduce_andi_all _ _ _ _ _ hd y)⟩

end Cert.MoeRange

end
-- ==== Proof.MoeTables.lean ====
/- THE TABLES. With every entry in range the tables are such that each block the pipeline fetches lies in its array. A tile with
   no live unit fetches its expert's last chunk at every point; the others fetch their expert's chunks in turn. -/
module

public import proofs.«01_k».proof.Proof.MoeRun
public import proofs.«01_k».proof.Proof.MoeRange

@[expose] public section

set_option maxRecDepth 16384

noncomputable section

namespace Cert.Moe

open Cert.Kernel2Ideal Cert.Kernel2Ideal.Gen
open Idealize.ShloMosaic Idealize.ShloMosaic.Pointwise Idealize.ShloMosaic.TcCoe Idealize.SL.Sem

variable {F : FTy → Type} [FloatOps F]

/-- The tables' entries of a point's tile. -/
def te0 (T : S22.Idx → BitVec 32) (i : grid0.Coords) : ℕ := (T (ix1 (i 0))).toNat

theorem coord_word : ∀ n : Fin 22, (Scalar.indexCast (BitVec.ofNat 32 n.val) : Index).toNat = n.val := by decide +kernel

/-- The one element of a table that a point reads is its tile's. -/
theorem read_index (i : grid0.Coords) (inb) : (Rect.unit (s := S22) (k0_off1 i) S1.size inb).emb (Shape.Idx.first (numel1_S1.symm ▸ Nat.one_pos)) = ix1 (i 0) := by
  funext a
  match a with
  | ⟨0, _⟩ => exact Fin.ext (by show (Scalar.indexCast (BitVec.ofNat 32 (i 0).val) : Index).toNat + 1 * 0 = (i 0).val; rw [coord_word (i 0)]; omega)

/-- The chunk a point fetches. -/
def chunkAt (n : ℕ) (i : grid0.Coords) : ℕ := if 0 < n then (i 1).val else 6

theorem chunk_word : ∀ (n : Fin 10) (f : Fin 7), (Scalar.select (Scalar.cmpi .sgt (BitVec.ofNat 32 n.val) 0#32) (BitVec.ofNat 32 f.val) 6#32).toNat = if 0 < n.val then f.val else 6 := by decide +kernel

theorem chunk_word' {w : BitVec 32} (hw : w.toNat ≤ 9) (f : Fin 7) : (Scalar.select (Scalar.cmpi .sgt w 0#32) (BitVec.ofNat 32 f.val) 6#32).toNat = if 0 < w.toNat then f.val else 6 := by
  have e : w = BitVec.ofNat 32 w.toNat := by rw [BitVec.ofNat_toNat, BitVec.setWidth_eq]
  have := chunk_word ⟨w.toNat, by omega⟩ f
  rw [← e] at this
  exact this

variable (pf : pre0.Contents (Elt F))

abbrev tab0 : S22.Idx → BitVec 32 := pf 0
abbrev tab1 : S22.Idx → BitVec 32 := pf 1

theorem map1 (hn : ∀ y, (tab1 pf y).toNat ≤ 9) (i : grid0.Coords) :
    cc0_transform_1 k0_off1_inb numel1_S1 pf i = ![te0 (tab0 pf) i, 0, chunkAt (te0 (tab1 pf) i) i] := by
  have e0 : pf.at 0 (Rect.unit (s := S22) (k0_off1 i) S1.size (k0_off1_inb i)) numel1_S1 = tab0 pf (ix1 (i 0)) := congrArg (tab0 pf) (read_index i _)
  have e1 : pf.at 1 (Rect.unit (s := S22) (k0_off1 i) S1.size (k0_off1_inb i)) numel1_S1 = tab1 pf (ix1 (i 0)) := congrArg (tab1 pf) (read_index i _)
  have e2 := chunk_word' (hn (ix1 (i 0))) (i 1)
  unfold chunkAt te0
  rw [← e2, ← e0, ← e1]
  rfl

theorem map2 (hn : ∀ y, (tab1 pf y).toNat ≤ 9) (i : grid0.Coords) :
    cc0_transform_2 k0_off1_inb numel1_S1 pf i = ![te0 (tab0 pf) i, 0, chunkAt (te0 (tab1 pf) i) i] := by
  rw [← map1 pf hn i]
  rfl

theorem map3 (hn : ∀ y, (tab1 pf y).toNat ≤ 9) (i : grid0.Coords) :
    cc0_transform_3 k0_off1_inb numel1_S1 pf i = ![te0 (tab0 pf) i, chunkAt (te0 (tab1 pf) i) i, 0] := by
  have e0 : pf.at 0 (Rect.unit (s := S22) (k0_off1 i) S1.size (k0_off1_inb i)) numel1_S1 = tab0 pf (ix1 (i 0)) := congrArg (tab0 pf) (read_index i _)
  have e1 : pf.at 1 (Rect.unit (s := S22) (k0_off1 i) S1.size (k0_off1_inb i)) numel1_S1 = tab1 pf (ix1 (i 0)) := congrArg (tab1 pf) (read_index i _)
  have e2 := chunk_word' (hn (ix1 (i 0))) (i 1)
  unfold chunkAt te0
  rw [← e2, ← e0, ← e1]
  rfl

theorem chunkAt_le (n : ℕ) (i : grid0.Coords) : chunkAt n i ≤ 6 := by
  have : (i 1).val < 7 := (i 1).isLt
  unfold chunkAt
  split <;> omega

/-- Tables in range make every block lie in its array. -/
theorem ok_of_range (ht : ∀ y, (tab0 pf y).toNat < 8) (hn : ∀ y, (tab1 pf y).toNat ≤ 9) : ok0 pf := by
  refine ⟨fun i => ⟨?_, Or.inl rfl⟩, fun i => ⟨?_, Or.inl rfl⟩, fun i => ⟨?_, Or.inl rfl⟩⟩
  · rw [map1 pf hn i]
    have h0 := ht (ix1 (i 0))
    have h1 := chunkAt_le (te0 (tab1 pf) i) i
    intro a
    match a with
    | ⟨0, _⟩ => show (te0 (tab0 pf) i + 1) * 1 ≤ 8; unfold te0; omega
    | ⟨1, _⟩ => show (0 + 1) * 1024 ≤ 1024; omega
    | ⟨2, _⟩ => show (chunkAt _ i + 1) * 512 ≤ 3584; omega
  · rw [map2 pf hn i]
    have h0 := ht (ix1 (i 0))
    have h1 := chunkAt_le (te0 (tab1 pf) i) i
    intro a
    match a with
    | ⟨0, _⟩ => show (te0 (tab0 pf) i + 1) * 1 ≤ 8; unfold te0; omega
    | ⟨1, _⟩ => show (0 + 1) * 1024 ≤ 1024; omega
    | ⟨2, _⟩ => show (chunkAt _ i + 1) * 512 ≤ 3584; omega
  · rw [map3 pf hn i]
    have h0 := ht (ix1 (i 0))
    have h1 := chunkAt_le (te0 (tab1 pf) i) i
    intro a
    match a with
    | ⟨0, _⟩ => show (te0 (tab0 pf) i + 1) * 1 ≤ 8; unfold te0; omega
    | ⟨1, _⟩ => show (chunkAt _ i + 1) * 512 ≤ 3584; omega
    | ⟨2, _⟩ => show (0 + 1) * 1024 ≤ 1024; omega

variable (m : (ℓ : Loc nD τ sig) → Buf (Elt F) ℓ)

/-- The tables the program starts with. -/
def tabs : pre0.Contents (Elt F) := fun j => m (((0 : Dev nD) : Thread nD τ).loc (pre0.ref j))

/-- The tables, with their being in range. -/
def adm (ht : ∀ y, (tab0 (tabs m) y).toNat < 8) (hn : ∀ y, (tab1 (tabs m) y).toNat ≤ 9) : (pcfg0 (F := F)).Adm :=
  ⟨tabs m, ok_of_range (tabs m) ht hn⟩

theorem adm_tables (ht) (hn) (c : Dev nD) (j : Fin 2) : m ((c : Thread nD τ).loc (pre0.ref j)) = (adm m ht hn).1 j := by
  obtain rfl : c = 0 := Subsingleton.elim _ _
  rfl

/-- A point's unit count is its tile's entry. -/
theorem units_eq (a : (pcfg0 (F := F)).Adm) (t : Fin (cfgA a).N) : units a t = te0 (tab1 a.1) (crd a t) := by
  unfold units te0
  exact congrArg BitVec.toNat (congrArg (tab1 a.1) (read_index (crd a t) _))

theorem units_le (ht) (hn) (t : Fin (cfgA (adm m ht hn)).N) : units (adm m ht hn) t ≤ 9 := by
  rw [units_eq]
  exact hn _

/-- The precondition, as tables in range. -/
theorem tables_in_range [Cert.Pre_tables_in_range.Facts]
    (h : ∀ c : Dev nD, Cert.Pre_tables_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) :
    ∃ a : (pcfg0 (F := F)).Adm, (∀ (c : Dev nD) (j : Fin 2), m ((c : Thread nD τ).loc (pre0.ref j)) = a.1 j) ∧ (∀ y, (tab0 a.1 y).toNat < 8) ∧ (∀ y, (tab1 a.1 y).toNat ≤ 9)
      ∧ ∀ t : Fin (cfgA a).N, units a t ≤ 9 := by
  obtain ⟨ht, hn⟩ := Cert.MoeRange.ranges _ _ _ _ _ _ (h 0)
  exact ⟨adm m ht hn, adm_tables m ht hn, ht, hn, units_le m ht hn⟩

/-- The program runs, leaves its arguments, and ends with every counter zero. -/
theorem frame [Cert.Pre_tables_in_range.Facts] (ρ : Dev nD → PrngReg)
    (h : ∀ c : Dev nD, Cert.Pre_tables_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  obtain ⟨a, hp, -, -, hu⟩ := tables_in_range m h
  refine (θ_run defs _ _).mono (fun r k => ⟨fun c => ?_, k.2⟩) (final a m ρ hu hp)
  obtain ⟨h0, h1, h2, h3, h4, h5, -⟩ := k.1 c
  exact ⟨h0, h1, h2, h3, h4, h5⟩

end Cert.Moe

end
-- ==== Proof.MoeSpec.lean ====
/- ONE EXPERT'S LAYER ON ONE ROW, in plain arithmetic. A row is 512 words, each holding two numbers of sixteen bits: the low
   halves are the row's first 512 numbers, the high halves its last 512. -/
module

public import Idealize.ShloMosaic.Lib.Pointwise
public import Idealize.ShloMosaic.Lib.Pipeline.ValueKit

@[expose] public section

noncomputable section

namespace Cert.Moe

open Idealize.ShloMosaic Idealize.ShloMosaic.Pointwise

/-- The number in the low half of a word. -/
abbrev lo (w : BitVec 32) : EReal := Ideal.ofBits FTy.f32 (IntOp.shli ArithUnit.vector w 16#32)
/-- The number in the high half of a word. -/
abbrev hi (w : BitVec 32) : EReal := Ideal.ofBits FTy.f32 (IntOp.andi w 4294901760#32)

/-- A row against one column of a weight. -/
def rowDot (w : Fin 512 → BitVec 32) (g : Fin 1024 → EReal) : EReal :=
  (∑ x : Fin 512, lo (w x) * g ⟨x.val, by omega⟩) + ∑ x : Fin 512, hi (w x) * g ⟨512 + x.val, by omega⟩

/-- What one hidden unit adds: the gate's silu times the value, times its weight to the output. -/
def unit1 (w : Fin 512 → BitVec 32) (g u : Fin 1024 → EReal) (d : EReal) : EReal :=
  rowDot w g * Ideal.logistic (rowDot w g) * rowDot w u * d

/-- What 512 hidden units add. -/
def chunk (w : Fin 512 → BitVec 32) (g u : Fin 1024 → Fin 512 → EReal) (d : Fin 512 → EReal) : EReal :=
  ∑ k : Fin 512, unit1 w (fun c => g c k) (fun c => u c k) (d k)

end Cert.Moe

end
-- ==== Proof.MoePay.lean ====
/- THE PAYLOADS OF THE EXPERT CALL AT AN ELEMENT. Whatever the number of rows of a step, what is stored is the accumulator
   plus what the chunk's 512 hidden units add. -/
module

public import proofs.«01_k».proof.Proof.MoeRun
public import proofs.«01_k».proof.Proof.MoeSpec

@[expose] public section

set_option maxRecDepth 16384

noncomputable section

namespace Cert.Moe

open Cert.Kernel2Ideal Cert.Kernel2Ideal.Gen
open Idealize.ShloMosaic Idealize.ShloMosaic.Pointwise

section Kept
variable (g u : Vec Ideal S1024x512 .bf16) (d : Vec Ideal S512x1024 .bf16)

/-- A chunk's addition, from the kept weights. -/
abbrev keptChunk (w : Fin 512 → BitVec 32) (j : Fin 1024) : EReal :=
  chunk w (fun c k => g (ix2 c k)) (fun c k => u (ix2 c k)) (fun k => d (ix2 k j))

theorem pay1_apply (x : Vec Ideal S256x512 .i32) (z : Vec Ideal S256x1024 .f32) (r : Fin 256) (j : Fin 1024) :
    k0_pay1 (F := Ideal) g u d x z (ix2 r j) = z (ix2 r j) + keptChunk g u d (fun i => x (ix2 r i)) j := by
  unfold k0_pay1
  pointwise
  rfl

theorem pay26_apply (x : Vec Ideal S512x512 .i32) (z : Vec Ideal S512x1024 .f32) (r : Fin 512) (j : Fin 1024) :
    k0_pay26 (F := Ideal) g u d x z (ix2 r j) = z (ix2 r j) + keptChunk g u d (fun i => x (ix2 r i)) j := by
  unfold k0_pay26
  pointwise
  rfl

theorem pay24_apply (x : Vec Ideal S1024x512 .i32) (z : Vec Ideal S1024x1024 .f32) (r : Fin 1024) (j : Fin 1024) :
    k0_pay24 (F := Ideal) g u d x z (ix2 r j) = z (ix2 r j) + keptChunk g u d (fun i => x (ix2 r i)) j := by
  unfold k0_pay24
  pointwise
  rfl

theorem pay28_apply (x : Vec Ideal S1024x512 .i32) (z : Vec Ideal S1024x1024 .f32) (r : Fin 1024) (j : Fin 1024) :
    k0_pay28 (F := Ideal) g u d x (k0_pay7 (F := Ideal) x) k0_pay8 z (ix2 r j) = z (ix2 r j) + keptChunk g u d (fun i => x (ix2 r i)) j := by
  unfold k0_pay28 k0_pay7 k0_pay8
  pointwise
  rfl

theorem pay30_apply (x : Vec Ideal S1024x512 .i32) (z : Vec Ideal S1024x1024 .f32) (r : Fin 1024) (j : Fin 1024) :
    k0_pay30 (F := Ideal) g u d x (k0_pay13 (F := Ideal) x) k0_pay14 z (ix2 r j) = z (ix2 r j) + keptChunk g u d (fun i => x (ix2 r i)) j := by
  unfold k0_pay30 k0_pay13 k0_pay14
  pointwise
  rfl

theorem pay31_apply (x : Vec Ideal S512x512 .i32) (z : Vec Ideal S512x1024 .f32) (r : Fin 512) (j : Fin 1024) :
    k0_pay31 (F := Ideal) g u d x (k0_pay19 (F := Ideal) x) k0_pay20 z (ix2 r j) = z (ix2 r j) + keptChunk g u d (fun i => x (ix2 r i)) j := by
  unfold k0_pay31 k0_pay19 k0_pay20
  pointwise
  rfl

theorem pay29_apply (x : Vec Ideal S256x512 .i32) (z : Vec Ideal S256x1024 .f32) (r : Fin 256) (j : Fin 1024) :
    k0_pay29 (F := Ideal) g u d x z (ix2 r j) = z (ix2 r j) + keptChunk g u d (fun i => x (ix2 r i)) j := by
  unfold k0_pay29
  pointwise
  rfl

theorem pay32_apply (x : Vec Ideal S256x512 .i32) (z : Vec Ideal S256x1024 .f32) (r : Fin 256) (j : Fin 1024) :
    k0_pay32 (F := Ideal) g u d x z (ix2 r j) = z (ix2 r j) + keptChunk g u d (fun i => x (ix2 r i)) j := by
  unfold k0_pay32
  pointwise
  rfl
end Kept

section Fetched
variable (g u : Vec Ideal S1x1024x512 .f32) (d : Vec Ideal S1x512x1024 .f32)

/-- A chunk's addition, from the weights as fetched. -/
abbrev rawChunk (w : Fin 512 → BitVec 32) (j : Fin 1024) : EReal :=
  chunk w (fun c k => g (ix3 0 c k)) (fun c k => u (ix3 0 c k)) (fun k => d (ix3 0 k j))

/-- Rounding and reshaping keep a weight's element. -/
theorem weight_apply (c : Fin 1024) (k : Fin 512) : k0_pay21 (F := Ideal) g (ix2 c k) = g (ix3 0 c k) := by
  unfold k0_pay21
  pointwise

theorem down_apply (k : Fin 512) (j : Fin 1024) : k0_pay23 (F := Ideal) d (ix2 k j) = d (ix3 0 k j) := by
  unfold k0_pay23
  pointwise

theorem kept_eq (w : Fin 512 → BitVec 32) (j : Fin 1024) :
    keptChunk (k0_pay21 (F := Ideal) g) (k0_pay21 (F := Ideal) u) (k0_pay23 (F := Ideal) d) w j = rawChunk g u d w j := by
  simp only [keptChunk, rawChunk, weight_apply, down_apply]

theorem pay6_apply (x : Vec Ideal S1024x512 .i32) (z : Vec Ideal S1024x1024 .f32) (r : Fin 1024) (j : Fin 1024) :
    k0_pay6 (F := Ideal) g u d x z (ix2 r j) = z (ix2 r j) + rawChunk g u d (fun i => x (ix2 r i)) j := by
  unfold k0_pay6 k0_pay3 k0_pay4 k0_pay5
  pointwise
  rfl

theorem pay12_apply (x : Vec Ideal S1024x512 .i32) (z : Vec Ideal S1024x1024 .f32) (r : Fin 1024) (j : Fin 1024) :
    k0_pay12 (F := Ideal) g u d x z (ix2 r j) = z (ix2 r j) + rawChunk g u d (fun i => x (ix2 r i)) j := by
  unfold k0_pay12 k0_pay9 k0_pay10 k0_pay11
  pointwise
  rfl

theorem pay18_apply (x : Vec Ideal S1024x512 .i32) (z : Vec Ideal S1024x1024 .f32) (r : Fin 1024) (j : Fin 1024) :
    k0_pay18 (F := Ideal) g u d x z (ix2 r j) = z (ix2 r j) + rawChunk g u d (fun i => x (ix2 r i)) j := by
  unfold k0_pay18 k0_pay15 k0_pay16 k0_pay17
  pointwise
  rfl
end Fetched

/-- The accumulator starts at zero. -/
theorem pay27_apply (y : S2304x1024.Idx) : k0_pay27 (F := Ideal) y = (0 : EReal) := by
  unfold k0_pay27
  pointwise

end Cert.Moe

end
-- ==== Proof.MoeAcc.lean ====
/- WHAT A POINT ADDS TO THE ACCUMULATOR. A point whose tile has `n` live units of 256 rows adds its chunk's part to the first
   `256 * n` rows and leaves the other rows as they were. -/
module

public import proofs.«01_k».proof.Proof.MoePay

@[expose] public section

set_option maxRecDepth 16384

noncomputable section

namespace Cert.Moe

open Cert.Kernel2Ideal Cert.Kernel2Ideal.Gen
open Idealize.ShloMosaic Idealize.ShloMosaic.Pointwise

variable (arg4 : Memref sig .tc .vmem S2304x512 .i32) (arg5 arg6 : Memref sig .tc .vmem S1x1024x512 .f32) (arg7 : Memref sig .tc .vmem S1x512x1024 .f32)
  (x0 : S2304x512.Idx → Elt Ideal .i32) (x1 x2 : S1x1024x512.Idx → Elt Ideal .f32) (x3 : S1x512x1024.Idx → Elt Ideal .f32) (z : sAcc.view.ty.Contents (Elt Ideal))

/-- An element of the accumulator. -/
def rd (z : sAcc.view.ty.Contents (Elt Ideal)) (R : Fin 2304) (j : Fin 1024) : EReal := z (ix2 R j)

/-- A row with its chunk's part added. -/
def added (R : Fin 2304) (j : Fin 1024) : EReal := rd z R j + rawChunk x1 x2 x3 (fun i => x0 (ix2 R i)) j

theorem kept_gate : kG (F := Ideal) arg5 x1 = k0_pay21 (F := Ideal) x1 :=
  (View.readCov_full _ _ _ _ _).trans (congrArg _ (View.readAt_rep_full _ _ _))
theorem kept_value : kU (F := Ideal) arg6 x2 = k0_pay21 (F := Ideal) x2 :=
  (View.readCov_full _ _ _ _ _).trans (congrArg _ (View.readAt_rep_full _ _ _))
theorem kept_down : kD (F := Ideal) arg7 x3 = k0_pay23 (F := Ideal) x3 :=
  (View.readCov_full _ _ _ _ _).trans (congrArg _ (View.readAt_rep_full _ _ _))
theorem load_weight (arg : Memref sig .tc .vmem S1x1024x512 .f32) : ldW (F := Ideal) x1 arg = x1 := View.readAt_rep_full _ _ _
theorem load_down : ldD (F := Ideal) arg7 x3 = x3 := View.readAt_rep_full _ _ _

/-- A loaded row is the tile's row at the load's offset. -/
theorem load_rows {o h : ℕ} (off : Fin 2 → ℕ) (hoff : off = ![o, 0]) (inb : ∀ a, off a + (![h, 512] : Fin 2 → ℕ) a ≤ S2304x512.size a) (r : Fin h) (i : Fin 512) (hr : o + r.val < 2304) :
    (ldX (F := Ideal) arg4 x0 off ![h, 512] inb) (ix2 r i) = x0 (ix2 ⟨o + r.val, hr⟩ i) := by
  subst hoff
  refine (congrFun (View.readAt_rep _ _ _) _).trans (congrArg x0 (funext fun b => ?_))
  match b with
  | ⟨0, _⟩ => exact Fin.ext (by show o + 1 * r.val = o + r.val; omega)
  | ⟨1, _⟩ => exact Fin.ext (by show 0 + 1 * i.val = i.val; omega)

/-- A loaded row of the accumulator likewise. -/
theorem load_acc {o h : ℕ} (off : Fin 2 → ℕ) (hoff : off = ![o, 0]) (inb : ∀ a, off a + (![h, 1024] : Fin 2 → ℕ) a ≤ S2304x1024.size a) (r : Fin h) (j : Fin 1024) (hr : o + r.val < 2304) :
    (ldA (F := Ideal) z off ![h, 1024] inb) (ix2 r j) = rd z ⟨o + r.val, hr⟩ j := by
  subst hoff
  unfold rd
  refine congrArg z (funext fun b => ?_)
  match b with
  | ⟨0, _⟩ => exact Fin.ext (by show o + 1 * r.val = o + r.val; omega)
  | ⟨1, _⟩ => exact Fin.ext (by show 0 + 1 * j.val = j.val; omega)

/-- A store of rows with their part added: those rows are as wanted, the others as the earlier stores left them. -/
theorem stored {o h : ℕ} (f : sAcc.view.ty.Contents (Elt Ideal)) (off : Fin 2 → ℕ) (hoff : off = ![o, 0]) (inb : ∀ a, off a + (![h, 1024] : Fin 2 → ℕ) a ≤ S2304x1024.size a)
    (w : (⟨2, ![h, 1024]⟩ : Shape).Idx → EReal) (L : List (View.Piece (Elt Ideal) S2304x1024 .f32)) (T : Fin 2304 → Fin 1024 → EReal)
    (hw : ∀ (r : Fin h) (j : Fin 1024) (hr : o + r.val < 2304), w (ix2 r j) = T ⟨o + r.val, hr⟩ j) (R : Fin 2304) (j : Fin 1024) :
    rd (sAcc.view.writes (Elt Ideal) f (⟨Rect.unit (s := S2304x1024) off ![h, 1024] inb, w⟩ :: L)) R j
      = if o ≤ R.val ∧ R.val < o + h then T R j else rd (sAcc.view.writes (Elt Ideal) f L) R j := by
  refine (View.read_writes_cons_rows (Val := Elt Ideal) sAcc.view f (o := o) (W := h) inb w L (ix2 R j) hoff rfl rfl).trans ?_
  by_cases hc : o ≤ R.val ∧ R.val < o + h
  · rw [if_pos hc]
    refine (dif_pos hc).trans ?_
    have hr : o + (R.val - o) < 2304 := by omega
    refine Eq.trans (congrArg w (?_ : _ = ix2 (⟨R.val - o, by omega⟩ : Fin h) j)) ((hw ⟨R.val - o, by omega⟩ j hr).trans ?_)
    · funext b
      match b with
      | ⟨0, _⟩ => rfl
      | ⟨1, _⟩ => rfl
    · congr 1
      exact Fin.ext (by show o + (R.val - o) = R.val; omega)
  · rw [if_neg hc]
    exact dif_neg hc

section Steps
variable {arg4 arg5 arg6 arg7 x0 x1 x2 x3 z}

/-- A step of kept weights adds the chunk's part. -/
theorem of_kept {o h : ℕ} {offX offZ : Fin 2 → ℕ} (hX : offX = ![o, 0]) (hZ : offZ = ![o, 0]) (inbX : ∀ a, offX a + (![h, 512] : Fin 2 → ℕ) a ≤ S2304x512.size a)
    (inbZ : ∀ a, offZ a + (![h, 1024] : Fin 2 → ℕ) a ≤ S2304x1024.size a) {r : Fin h} {j : Fin 1024} (hr : o + r.val < 2304) {v : EReal}
    (hv : v = (ldA (F := Ideal) z offZ ![h, 1024] inbZ : (⟨2, ![h, 1024]⟩ : Shape).Idx → EReal) (ix2 r j)
      + rawChunk x1 x2 x3 (fun i => (ldX (F := Ideal) arg4 x0 offX ![h, 512] inbX : (⟨2, ![h, 512]⟩ : Shape).Idx → BitVec 32) (ix2 r i)) j) :
    v = added x0 x1 x2 x3 z ⟨o + r.val, hr⟩ j := by
  rw [hv, load_acc z offZ hZ inbZ r j hr]
  unfold added
  congr 2
  funext i
  exact load_rows arg4 x0 offX hX inbX r i hr
end Steps

theorem kept_step (w : Fin 512 → BitVec 32) (j : Fin 1024) :
    keptChunk (kG (F := Ideal) arg5 x1) (kU (F := Ideal) arg6 x2) (kD (F := Ideal) arg7 x3) w j = rawChunk x1 x2 x3 w j := by
  rw [kept_gate, kept_value, kept_down]
  exact kept_eq x1 x2 x3 w j

/-- The down and gate payloads of the larger tiles are the kept ones. -/
theorem raw_step {g u : Vec Ideal S1024x512 .bf16} {d : Vec Ideal S512x1024 .bf16} (hg : g = k0_pay21 (F := Ideal) (ldW (F := Ideal) x1 arg5)) (hu : u = k0_pay21 (F := Ideal) (ldW (F := Ideal) x2 arg6))
    (hd : d = k0_pay23 (F := Ideal) (ldD (F := Ideal) arg7 x3)) (w : Fin 512 → BitVec 32) (j : Fin 1024) :
    keptChunk g u d w j = rawChunk x1 x2 x3 w j := by
  rw [hg, hu, hd, load_weight, load_weight, load_down]
  exact kept_eq x1 x2 x3 w j

theorem stored_none (f : sAcc.view.ty.Contents (Elt Ideal)) (R : Fin 2304) (j : Fin 1024) :
    rd (sAcc.view.writes (Elt Ideal) f []) R j = rd f R j := rfl

theorem gate7 (x : Vec Ideal S1x1024x512 .f32) : k0_pay15 (F := Ideal) x = k0_pay21 x := by
  funext y; obtain ⟨c, k, rfl⟩ : ∃ c k, y = ix2 c k := ⟨_, _, eq_ix2 y⟩
  refine Eq.trans ?_ (weight_apply x c k).symm
  unfold k0_pay15; pointwise
theorem value7 (x : Vec Ideal S1x1024x512 .f32) : k0_pay16 (F := Ideal) x = k0_pay21 x := by
  funext y; obtain ⟨c, k, rfl⟩ : ∃ c k, y = ix2 c k := ⟨_, _, eq_ix2 y⟩
  refine Eq.trans ?_ (weight_apply x c k).symm
  unfold k0_pay16; pointwise
theorem down7 (x : Vec Ideal S1x512x1024 .f32) : k0_pay17 (F := Ideal) x = k0_pay23 x := by
  funext y; obtain ⟨c, k, rfl⟩ : ∃ c k, y = ix2 c k := ⟨_, _, eq_ix2 y⟩
  refine Eq.trans ?_ (down_apply x c k).symm
  unfold k0_pay17; pointwise
theorem gate8 (x : Vec Ideal S1x1024x512 .f32) : k0_pay9 (F := Ideal) x = k0_pay21 x := by
  funext y; obtain ⟨c, k, rfl⟩ : ∃ c k, y = ix2 c k := ⟨_, _, eq_ix2 y⟩
  refine Eq.trans ?_ (weight_apply x c k).symm
  unfold k0_pay9; pointwise
theorem value8 (x : Vec Ideal S1x1024x512 .f32) : k0_pay10 (F := Ideal) x = k0_pay21 x := by
  funext y; obtain ⟨c, k, rfl⟩ : ∃ c k, y = ix2 c k := ⟨_, _, eq_ix2 y⟩
  refine Eq.trans ?_ (weight_apply x c k).symm
  unfold k0_pay10; pointwise
theorem down8 (x : Vec Ideal S1x512x1024 .f32) : k0_pay11 (F := Ideal) x = k0_pay23 x := by
  funext y; obtain ⟨c, k, rfl⟩ : ∃ c k, y = ix2 c k := ⟨_, _, eq_ix2 y⟩
  refine Eq.trans ?_ (down_apply x c k).symm
  unfold k0_pay11; pointwise
theorem gate9 (x : Vec Ideal S1x1024x512 .f32) : k0_pay3 (F := Ideal) x = k0_pay21 x := by
  funext y; obtain ⟨c, k, rfl⟩ : ∃ c k, y = ix2 c k := ⟨_, _, eq_ix2 y⟩
  refine Eq.trans ?_ (weight_apply x c k).symm
  unfold k0_pay3; pointwise
theorem value9 (x : Vec Ideal S1x1024x512 .f32) : k0_pay4 (F := Ideal) x = k0_pay21 x := by
  funext y; obtain ⟨c, k, rfl⟩ : ∃ c k, y = ix2 c k := ⟨_, _, eq_ix2 y⟩
  refine Eq.trans ?_ (weight_apply x c k).symm
  unfold k0_pay4; pointwise
theorem down9 (x : Vec Ideal S1x512x1024 .f32) : k0_pay5 (F := Ideal) x = k0_pay23 x := by
  funext y; obtain ⟨c, k, rfl⟩ : ∃ c k, y = ix2 c k := ⟨_, _, eq_ix2 y⟩
  refine Eq.trans ?_ (down_apply x c k).symm
  unfold k0_pay5; pointwise

set_option maxHeartbeats 400000 in
theorem accRaw_apply (n : ℕ) (hn : n ≤ 9) (R : Fin 2304) (j : Fin 1024) :
    rd (accRaw (F := Ideal) arg4 arg5 arg6 arg7 x0 x1 x2 x3 z n) R j
      = if R.val < 256 * n then added x0 x1 x2 x3 z R j else rd z R j := by
  have e8 : k0_off8 1#32 = ![0, 0] ∧ k0_off9 1#32 = ![0, 0] ∧ k0_off8 3#32 = ![512, 0] ∧ k0_off9 3#32 = ![512, 0] ∧ k0_off8 5#32 = ![1024, 0] ∧ k0_off9 5#32 = ![1024, 0] := by
    decide +kernel
  obtain ⟨a1, b1, a3, b3, a5, b5⟩ := e8
  have small {o : ℕ} {offX offZ : Fin 2 → ℕ} (hX : offX = ![o, 0]) (hZ : offZ = ![o, 0]) (h h') (r : Fin 256) (j : Fin 1024) (hr : o + r.val < 2304) :
      (sB (F := Ideal) arg4 arg5 arg6 arg7 x0 x1 x2 x3 z offX offZ h h').2 (ix2 r j) = added x0 x1 x2 x3 z ⟨o + r.val, hr⟩ j :=
    of_kept hX hZ h h' hr ((pay1_apply _ _ _ _ _ r j).trans (congrArg _ (kept_step arg5 arg6 arg7 x1 x2 x3 _ j)))
  have mid {o : ℕ} (h h') (r : Fin 512) (j : Fin 1024) (hr : o + r.val < 2304) :
      (sT (F := Ideal) arg4 arg5 arg6 arg7 x0 x1 x2 x3 z o h h').2 (ix2 r j) = added x0 x1 x2 x3 z ⟨o + r.val, hr⟩ j :=
    of_kept rfl rfl h h' hr ((pay26_apply _ _ _ _ _ r j).trans (congrArg _ (kept_step arg5 arg6 arg7 x1 x2 x3 _ j)))
  have large (r : Fin 1024) (j : Fin 1024) (hr : 0 + r.val < 2304) :
      (sL (F := Ideal) arg4 arg5 arg6 arg7 x0 x1 x2 x3 z).2 (ix2 r j) = added x0 x1 x2 x3 z ⟨0 + r.val, hr⟩ j :=
    of_kept rfl rfl _ _ hr ((pay24_apply _ _ _ _ _ r j).trans (congrArg _ (kept_step arg5 arg6 arg7 x1 x2 x3 _ j)))
  have hR := R.isLt
  interval_cases n
  · rw [if_neg (by omega)]; rfl
  · refine (stored _ _ b1 _ _ _ (added x0 x1 x2 x3 z) (small a1 b1 _ _) R j).trans ?_
    rw [stored_none]
    split_ifs <;> first | rfl | omega
  · refine (stored _ _ rfl _ _ _ (added x0 x1 x2 x3 z) (mid _ _) R j).trans ?_
    rw [stored_none]
    split_ifs <;> first | rfl | omega
  · refine (stored _ _ b3 _ _ _ (added x0 x1 x2 x3 z) (small a3 b3 _ _) R j).trans ?_
    rw [stored _ _ rfl _ _ _ (added x0 x1 x2 x3 z) (mid _ _) R j, stored_none]
    split_ifs <;> first | rfl | omega
  · refine (stored _ _ rfl _ _ _ (added x0 x1 x2 x3 z) large R j).trans ?_
    rw [stored_none]
    split_ifs <;> first | rfl | omega
  · refine (stored _ _ b5 _ _ _ (added x0 x1 x2 x3 z) (small a5 b5 _ _) R j).trans ?_
    rw [stored _ _ rfl _ _ _ (added x0 x1 x2 x3 z) large R j, stored_none]
    split_ifs <;> first | rfl | omega
  · refine (stored _ _ rfl _ _ _ (added x0 x1 x2 x3 z) (mid _ _) R j).trans ?_
    rw [stored _ _ rfl _ _ _ (added x0 x1 x2 x3 z) large R j, stored_none]
    split_ifs <;> first | rfl | omega
  · have raw := fun w j => raw_step arg5 arg6 arg7 x1 x2 x3 (g := k0_pay15 (ldW (F := Ideal) x1 arg5)) (u := k0_pay16 (ldW (F := Ideal) x2 arg6)) (d := k0_pay17 (ldD (F := Ideal) arg7 x3)) (gate7 _) (value7 _) (down7 _) w j
    have p1 (r : Fin 256) (j : Fin 1024) (hr : 1536 + r.val < 2304) := of_kept (x0 := x0) (arg4 := arg4) (z := z) rfl rfl inb_S2304x512_S256x512_1536_0 inb_S2304x1024_S256x1024_1536_0 hr ((pay32_apply _ _ _ _ _ r j).trans (congrArg _ (raw _ j)))
    have p2 (r : Fin 512) (j : Fin 1024) (hr : 1024 + r.val < 2304) := of_kept (x0 := x0) (arg4 := arg4) (z := z) rfl rfl inb_S2304x512_S512x512_1024_0 inb_S2304x1024_S512x1024_1024_0 hr ((pay31_apply _ _ _ _ _ r j).trans (congrArg _ (raw _ j)))
    have p3 (r : Fin 1024) (j : Fin 1024) (hr : 0 + r.val < 2304) := of_kept (x0 := x0) (arg4 := arg4) (z := z) rfl rfl inb_S2304x512_S1024x512_0_0 inb_S2304x1024_S1024x1024_0_0 hr
      ((pay18_apply (ldW (F := Ideal) x1 arg5) (ldW (F := Ideal) x2 arg6) (ldD (F := Ideal) arg7 x3) _ _ r j).trans (by rw [load_weight, load_weight, load_down]))
    refine (stored _ _ rfl _ _ _ (added x0 x1 x2 x3 z) p1 R j).trans ?_
    rw [stored _ _ rfl _ _ _ (added x0 x1 x2 x3 z) p2 R j, stored _ _ rfl _ _ _ (added x0 x1 x2 x3 z) p3 R j, stored_none]
    split_ifs <;> first | rfl | omega
  · have raw := fun w j => raw_step arg5 arg6 arg7 x1 x2 x3 (g := k0_pay9 (ldW (F := Ideal) x1 arg5)) (u := k0_pay10 (ldW (F := Ideal) x2 arg6)) (d := k0_pay11 (ldD (F := Ideal) arg7 x3)) (gate8 _) (value8 _) (down8 _) w j
    have p2 (r : Fin 1024) (j : Fin 1024) (hr : 1024 + r.val < 2304) := of_kept (x0 := x0) (arg4 := arg4) (z := z) rfl rfl inb_S2304x512_S1024x512_1024_0 inb_S2304x1024_S1024x1024_1024_0 hr ((pay30_apply _ _ _ _ _ r j).trans (congrArg _ (raw _ j)))
    have p3 (r : Fin 1024) (j : Fin 1024) (hr : 0 + r.val < 2304) := of_kept (x0 := x0) (arg4 := arg4) (z := z) rfl rfl inb_S2304x512_S1024x512_0_0 inb_S2304x1024_S1024x1024_0_0 hr
      ((pay12_apply (ldW (F := Ideal) x1 arg5) (ldW (F := Ideal) x2 arg6) (ldD (F := Ideal) arg7 x3) _ _ r j).trans (by rw [load_weight, load_weight, load_down]))
    refine (stored _ _ rfl _ _ _ (added x0 x1 x2 x3 z) p2 R j).trans ?_
    rw [stored _ _ rfl _ _ _ (added x0 x1 x2 x3 z) p3 R j, stored_none]
    split_ifs <;> first | rfl | omega
  · have raw := fun w j => raw_step arg5 arg6 arg7 x1 x2 x3 (g := k0_pay3 (ldW (F := Ideal) x1 arg5)) (u := k0_pay4 (ldW (F := Ideal) x2 arg6)) (d := k0_pay5 (ldD (F := Ideal) arg7 x3)) (gate9 _) (value9 _) (down9 _) w j
    have p1 (r : Fin 256) (j : Fin 1024) (hr : 2048 + r.val < 2304) := of_kept (x0 := x0) (arg4 := arg4) (z := z) rfl rfl inb_S2304x512_S256x512_2048_0 inb_S2304x1024_S256x1024_2048_0 hr ((pay29_apply _ _ _ _ _ r j).trans (congrArg _ (raw _ j)))
    have p2 (r : Fin 1024) (j : Fin 1024) (hr : 1024 + r.val < 2304) := of_kept (x0 := x0) (arg4 := arg4) (z := z) rfl rfl inb_S2304x512_S1024x512_1024_0 inb_S2304x1024_S1024x1024_1024_0 hr ((pay28_apply _ _ _ _ _ r j).trans (congrArg _ (raw _ j)))
    have p3 (r : Fin 1024) (j : Fin 1024) (hr : 0 + r.val < 2304) := of_kept (x0 := x0) (arg4 := arg4) (z := z) rfl rfl inb_S2304x512_S1024x512_0_0 inb_S2304x1024_S1024x1024_0_0 hr
      ((pay6_apply (ldW (F := Ideal) x1 arg5) (ldW (F := Ideal) x2 arg6) (ldD (F := Ideal) arg7 x3) _ _ r j).trans (by rw [load_weight, load_weight, load_down]))
    refine (stored _ _ rfl _ _ _ (added x0 x1 x2 x3 z) p1 R j).trans ?_
    rw [stored _ _ rfl _ _ _ (added x0 x1 x2 x3 z) p2 R j, stored _ _ rfl _ _ _ (added x0 x1 x2 x3 z) p3 R j]
    split_ifs <;> first | rfl | omega

end Cert.Moe

end
-- ==== Proof.MoeBlocks.lean ====
/- THE BLOCKS. Each block a point is given, as elements of the call's arrays. -/
module

public import proofs.«01_k».proof.Proof.MoeTables
public import proofs.«01_k».proof.Proof.MoeAcc

@[expose] public section

set_option maxRecDepth 16384

noncomputable section

namespace Cert.Moe

open Cert.Kernel2Ideal Cert.Kernel2Ideal.Gen
open Idealize.ShloMosaic Idealize.ShloMosaic.Pointwise Idealize.ShloMosaic.TcCoe

variable (a : (pcfg0 (F := Ideal)).Adm) (m : (ℓ : Loc nD τ sig) → Buf (Elt Ideal) ℓ) (ρ : Dev nD → PrngReg)

abbrev arrX (c : Dev nD) : S50688x512.Idx → BitVec 32 := m ((c : Thread nD τ).loc main_arg0)
abbrev arrG (c : Dev nD) : S8x1024x3584.Idx → EReal := m ((c : Thread nD τ).loc main_arg3)
abbrev arrU (c : Dev nD) : S8x1024x3584.Idx → EReal := m ((c : Thread nD τ).loc main_arg4)
abbrev arrD (c : Dev nD) : S8x3584x1024.Idx → EReal := m ((c : Thread nD τ).loc main_arg5)

abbrev blkX (c : Dev nD) (t : Fin (cfgA a).N) : S2304x512.Idx → BitVec 32 := iblk a m ρ c (0 : Fin 5) t
abbrev blkG (c : Dev nD) (t : Fin (cfgA a).N) : S1x1024x512.Idx → EReal := iblk a m ρ c (1 : Fin 5) t
abbrev blkU (c : Dev nD) (t : Fin (cfgA a).N) : S1x1024x512.Idx → EReal := iblk a m ρ c (2 : Fin 5) t
abbrev blkD (c : Dev nD) (t : Fin (cfgA a).N) : S1x512x1024.Idx → EReal := iblk a m ρ c (3 : Fin 5) t

/-- A row of a tile, in the array. -/
def rowAt (i : Fin 22) (R : Fin 2304) : Fin 50688 := ⟨2304 * i.val + R.val, by omega⟩
/-- A hidden unit of a chunk, in the array. -/
def unitAt (f : Fin 7) (k : Fin 512) : Fin 3584 := ⟨512 * f.val + k.val, by omega⟩

/-- A point's tile and chunk. -/
abbrev til (t : Fin (cfgA a).N) : Fin 22 := crd a t 0
abbrev chk (t : Fin (cfgA a).N) : Fin 7 := crd a t 1

theorem word22 : ∀ n : Fin 22, (BitVec.ofNat 32 n.val).toNat = n.val := by decide +kernel

theorem map0 (i : grid0.Coords) : cc0_transform_0 i = ![(i 0).val, 0] := by
  funext b
  match b with
  | ⟨0, _⟩ => exact word22 (i 0)
  | ⟨1, _⟩ => rfl

theorem map4 (i : grid0.Coords) : cc0_transform_4 i = ![(i 0).val, 0] := by
  funext b
  match b with
  | ⟨0, _⟩ => exact word22 (i 0)
  | ⟨1, _⟩ => rfl

theorem blkX_apply (c : Dev nD) (t : Fin (cfgA a).N) (R : Fin 2304) (i : Fin 512) :
    blkX a m ρ c t (ix2 R i) = arrX m c (ix2 (rowAt (til a t) R) i) := by
  have hw : ((cfgA a).win (0 : Fin 5)).index t = ![(til a t).val, 0] := map0 (crd a t)
  refine congrArg (arrX m c) (funext fun b => Fin.ext ?_)
  refine (Pipeline.Window.rect_emb_val ((cfgA a).win (0 : Fin 5)) t (ix2 R i) b).trans ?_
  match b with
  | ⟨0, _⟩ => exact (congrArg (fun v : Fin 2 → ℕ => v 0 * 2304 + R.val) hw).trans (by show (til a t).val * 2304 + R.val = 2304 * (til a t).val + R.val; omega)
  | ⟨1, _⟩ => exact (congrArg (fun v : Fin 2 → ℕ => v 1 * 512 + i.val) hw).trans (by show 0 * 512 + i.val = i.val; omega)

variable {a} {E : Fin 22 → Fin 8} {N : Fin 22 → ℕ}

theorem wide8 : ∀ e : Fin 8, (BitVec.ofNat 32 e.val).toNat = e.val := by decide +kernel

theorem te0_eq (hE : ∀ i, tab0 a.1 (ix1 i) = BitVec.ofNat 32 (E i).val) (t : Fin (cfgA a).N) : te0 (tab0 a.1) (crd a t) = (E (til a t)).val :=
  (congrArg BitVec.toNat (hE (til a t))).trans (wide8 _)

section
variable (hE : ∀ i, tab0 a.1 (ix1 i) = BitVec.ofNat 32 (E i).val) (hN : ∀ y, (tab1 a.1 y).toNat ≤ 9)
include hE hN

theorem blkG_apply (c : Dev nD) (t : Fin (cfgA a).N) (h : 0 < units a t) (i : Fin 1024) (k : Fin 512) :
    blkG a m ρ c t (ix3 0 i k) = arrG m c (ix3 (E (til a t)) i (unitAt (chk a t) k)) := by
  rw [units_eq] at h
  have hw : ((cfgA a).win (1 : Fin 5)).index t = ![(E (til a t)).val, 0, (chk a t).val] := by
    refine (map1 a.1 hN (crd a t)).trans ?_
    unfold chunkAt
    rw [if_pos h, te0_eq hE]
  refine congrArg (arrG m c) (funext fun b => Fin.ext ?_)
  refine (Pipeline.Window.rect_emb_val ((cfgA a).win (1 : Fin 5)) t (ix3 0 i k) b).trans ?_
  match b with
  | ⟨0, _⟩ => exact (congrArg (fun v : Fin 3 → ℕ => v 0 * 1 + 0) hw).trans (by show (E (til a t)).val * 1 + 0 = (E (til a t)).val; omega)
  | ⟨1, _⟩ => exact (congrArg (fun v : Fin 3 → ℕ => v 1 * 1024 + i.val) hw).trans (by show 0 * 1024 + i.val = i.val; omega)
  | ⟨2, _⟩ => exact (congrArg (fun v : Fin 3 → ℕ => v 2 * 512 + k.val) hw).trans (by show (chk a t).val * 512 + k.val = 512 * (chk a t).val + k.val; omega)

theorem blkU_apply (c : Dev nD) (t : Fin (cfgA a).N) (h : 0 < units a t) (i : Fin 1024) (k : Fin 512) :
    blkU a m ρ c t (ix3 0 i k) = arrU m c (ix3 (E (til a t)) i (unitAt (chk a t) k)) := by
  rw [units_eq] at h
  have hw : ((cfgA a).win (2 : Fin 5)).index t = ![(E (til a t)).val, 0, (chk a t).val] := by
    refine (map2 a.1 hN (crd a t)).trans ?_
    unfold chunkAt
    rw [if_pos h, te0_eq hE]
  refine congrArg (arrU m c) (funext fun b => Fin.ext ?_)
  refine (Pipeline.Window.rect_emb_val ((cfgA a).win (2 : Fin 5)) t (ix3 0 i k) b).trans ?_
  match b with
  | ⟨0, _⟩ => exact (congrArg (fun v : Fin 3 → ℕ => v 0 * 1 + 0) hw).trans (by show (E (til a t)).val * 1 + 0 = (E (til a t)).val; omega)
  | ⟨1, _⟩ => exact (congrArg (fun v : Fin 3 → ℕ => v 1 * 1024 + i.val) hw).trans (by show 0 * 1024 + i.val = i.val; omega)
  | ⟨2, _⟩ => exact (congrArg (fun v : Fin 3 → ℕ => v 2 * 512 + k.val) hw).trans (by show (chk a t).val * 512 + k.val = 512 * (chk a t).val + k.val; omega)

theorem blkD_apply (c : Dev nD) (t : Fin (cfgA a).N) (h : 0 < units a t) (k : Fin 512) (j : Fin 1024) :
    blkD a m ρ c t (ix3 0 k j) = arrD m c (ix3 (E (til a t)) (unitAt (chk a t) k) j) := by
  rw [units_eq] at h
  have hw : ((cfgA a).win (3 : Fin 5)).index t = ![(E (til a t)).val, (chk a t).val, 0] := by
    refine (map3 a.1 hN (crd a t)).trans ?_
    unfold chunkAt
    rw [if_pos h, te0_eq hE]
  refine congrArg (arrD m c) (funext fun b => Fin.ext ?_)
  refine (Pipeline.Window.rect_emb_val ((cfgA a).win (3 : Fin 5)) t (ix3 0 k j) b).trans ?_
  match b with
  | ⟨0, _⟩ => exact (congrArg (fun v : Fin 3 → ℕ => v 0 * 1 + 0) hw).trans (by show (E (til a t)).val * 1 + 0 = (E (til a t)).val; omega)
  | ⟨1, _⟩ => exact (congrArg (fun v : Fin 3 → ℕ => v 1 * 512 + k.val) hw).trans (by show (chk a t).val * 512 + k.val = 512 * (chk a t).val + k.val; omega)
  | ⟨2, _⟩ => exact (congrArg (fun v : Fin 3 → ℕ => v 2 * 1024 + j.val) hw).trans (by show 0 * 1024 + j.val = j.val; omega)

end

/-- A chunk's part of a row's result, in the arrays. -/
def chunkVal (X : S50688x512.Idx → BitVec 32) (G U : S8x1024x3584.Idx → EReal) (D : S8x3584x1024.Idx → EReal) (e : Fin 8) (r : Fin 50688) (j : Fin 1024) (f : Fin 7) : EReal :=
  ∑ k : Fin 512, unit1 (fun i => X (ix2 r i)) (fun c => G (ix3 e c (unitAt f k))) (fun c => U (ix3 e c (unitAt f k))) (D (ix3 e (unitAt f k) j))

theorem part_eq (hE : ∀ i, tab0 a.1 (ix1 i) = BitVec.ofNat 32 (E i).val) (hN : ∀ y, (tab1 a.1 y).toNat ≤ 9) (c : Dev nD) (t : Fin (cfgA a).N) (h : 0 < units a t) (R : Fin 2304) (j : Fin 1024) :
    rawChunk (blkG a m ρ c t) (blkU a m ρ c t) (blkD a m ρ c t) (fun i => blkX a m ρ c t (ix2 R i)) j
      = chunkVal (arrX m c) (arrG m c) (arrU m c) (arrD m c) (E (til a t)) (rowAt (til a t) R) j (chk a t) := by
  unfold rawChunk chunk chunkVal
  refine Finset.sum_congr rfl fun k _ => ?_
  exact congr (congr (congr (congrArg unit1 (funext fun i => blkX_apply a m ρ c t R i)) (funext fun i => blkG_apply m ρ hE hN c t h i k)) (funext fun i => blkU_apply m ρ hE hN c t h i k))
    (blkD_apply m ρ hE hN c t h k j)

end Cert.Moe

end
-- ==== Proof.MoeSum.lean ====
/- THE CALL'S ARRAY. Over a tile's seven points the accumulator gathers the seven chunks of the tile's live rows, from zero; the
   last point writes it out. -/
module

public import proofs.«01_k».proof.Proof.MoeBlocks
public import Idealize.ShloMosaic.Lib.Pipeline.ValueKit

@[expose] public section

set_option maxRecDepth 16384

noncomputable section

namespace Cert.Moe

open Cert.Kernel2Ideal Cert.Kernel2Ideal.Gen
open Idealize.ShloMosaic Idealize.ShloMosaic.Pointwise Idealize.ShloMosaic.TcCoe

variable (a : (pcfg0 (F := Ideal)).Adm) (m : (ℓ : Loc nD τ sig) → Buf (Elt Ideal) ℓ) (ρ : Dev nD → PrngReg)

theorem coords_val : ∀ t : Fin grid0.N, (grid0.coords t 0).val = t.val / 7 ∧ (grid0.coords t 1).val = t.val % 7 := by decide +kernel

theorem til_val (t : Fin (cfgA a).N) : (til a t).val = t.val / 7 := (coords_val t).1
theorem chk_val (t : Fin (cfgA a).N) : (chk a t).val = t.val % 7 := (coords_val t).2

theorem first_bit : ∀ f : Fin 7, (Scalar.cmpi .ne (Scalar.extui (Scalar.cmpi .eq (BitVec.ofNat 32 f.val) 0#32)) 0#32 : BitVec 1) = 1#1 ↔ f.val = 0 := by decide +kernel

/-- At a tile's first chunk the accumulator is zeroed. -/
theorem zeroed_at_first (t : Fin (cfgA a).N) (h : (chk a t).val = 0) (z : sAcc.view.ty.Contents (Elt Ideal)) (R : Fin 2304) (j : Fin 1024) : rd (zeroed (crd a t) z) R j = 0 := by
  unfold rd
  rw [zeroed_first (crd a t) ((first_bit (chk a t)).2 h) z]
  exact pay27_apply _

/-- At the other chunks it is kept. -/
theorem zeroed_at_rest (t : Fin (cfgA a).N) (h : (chk a t).val ≠ 0) (z : sAcc.view.ty.Contents (Elt Ideal)) : zeroed (crd a t) z = z := by
  unfold zeroed
  exact dif_neg fun h' => h ((first_bit (chk a t)).1 h')

variable {a} {E : Fin 22 → Fin 8}

/-- A chunk's part, by the chunk's number. -/
def partOf (E : Fin 22 → Fin 8) (c : Dev nD) (i : Fin 22) (R : Fin 2304) (j : Fin 1024) (f : ℕ) : EReal :=
  if h : f < 7 then chunkVal (arrX m c) (arrG m c) (arrU m c) (arrD m c) (E i) (rowAt i R) j ⟨f, h⟩ else 0

/-- A tile's live rows. -/
abbrev live (a : (pcfg0 (F := Ideal)).Adm) (i : Fin 22) : ℕ := (tab1 a.1 (ix1 i)).toNat

theorem units_live (t : Fin (cfgA a).N) : units a t = live a (til a t) := units_eq a t

section
variable (hE : ∀ i, tab0 a.1 (ix1 i) = BitVec.ofNat 32 (E i).val) (hN : ∀ y, (tab1 a.1 y).toNat ≤ 9)
include hE hN

theorem step_apply (c : Dev nD) (t : Fin (cfgA a).N) (z : sAcc.view.ty.Contents (Elt Ideal)) (R : Fin 2304) (j : Fin 1024) :
    rd (accStep a m ρ c t z) R j = if R.val < 256 * live a (til a t) then rd (zeroed (crd a t) z) R j + partOf m E c (til a t) R j (chk a t).val else rd (zeroed (crd a t) z) R j := by
  have h9 : units a t ≤ 9 := by rw [units_eq]; exact hN _
  unfold accStep
  refine (accRaw_apply (ms0 a t) (ms1 a t) (ms2 a t) (ms3 a t) (blkX a m ρ c t) (blkG a m ρ c t) (blkU a m ρ c t) (blkD a m ρ c t) (zeroed (crd a t) z) (units a t) h9 R j).trans ?_
  rw [← units_live]
  by_cases h : R.val < 256 * units a t
  · rw [if_pos h, if_pos h]
    unfold added partOf
    rw [dif_pos (chk a t).isLt]
    exact congrArg (rd (zeroed (crd a t) z) R j + ·) (part_eq m ρ hE hN c t (by omega) R j)
  · rw [if_neg h, if_neg h]

/-- The accumulator after a point: the chunks so far of the live rows, zero in the others. -/
theorem acc_sum (c : Dev nD) (R : Fin 2304) (j : Fin 1024) : ∀ (n : ℕ) (t : Fin (cfgA a).N), t.val = n →
    rd (accB a m ρ c t.succ) R j = if R.val < 256 * live a (til a t) then ∑ f ∈ Finset.range ((chk a t).val + 1), partOf m E c (til a t) R j f else 0 := by
  intro n
  induction n with
  | zero =>
    intro t ht
    have hc : (chk a t).val = 0 := by rw [chk_val, ht]
    rw [accB_succ, step_apply m ρ hE hN, zeroed_at_first a t hc, hc, Finset.sum_range_one, zero_add]
  | succ n ih =>
    intro t ht
    by_cases hc : (chk a t).val = 0
    · rw [accB_succ, step_apply m ρ hE hN, zeroed_at_first a t hc, hc, Finset.sum_range_one, zero_add]
    · have hlt := t.isLt
      let t' : Fin (cfgA a).N := ⟨n, by omega⟩
      have ht' : t'.val = n := rfl
      have e1 : t.castSucc = t'.succ := Fin.ext (by show t.val = n + 1; omega)
      have e2 : til a t' = til a t := Fin.ext (by rw [til_val, til_val]; have := chk_val a t; omega)
      have e3 : (chk a t).val = (chk a t').val + 1 := by rw [chk_val, chk_val]; have := chk_val a t; omega
      have e := ih t' rfl
      rw [e2] at e
      rw [accB_succ, step_apply m ρ hE hN, zeroed_at_rest a t hc, e1, e, e3]
      by_cases h : R.val < 256 * live a (til a t)
      · rw [if_pos h, if_pos h, if_pos h, Finset.sum_range_succ _ ((chk a t').val + 1)]
      · rw [if_neg h, if_neg h, if_neg h]
end

/-- The tile of a row, and the row within it. -/
def tileIx (r : Fin 50688) : Fin 22 := ⟨r.val / 2304, by omega⟩
def rowIx (r : Fin 50688) : Fin 2304 := ⟨r.val % 2304, by omega⟩

/-- The call's array. -/
def outArr (a : (pcfg0 (F := Ideal)).Adm) (E : Fin 22 → Fin 8) (c : Dev nD) (r : Fin 50688) (j : Fin 1024) : EReal :=
  if r.val % 2304 < 256 * live a (tileIx r) then ∑ f ∈ Finset.range 7, partOf m E c (tileIx r) (rowIx r) j f else 0

theorem flush_last : ∀ t : Fin grid0.N, Pipeline.Window.flushOf grid0 true cc0_transform_4 t = true → (grid0.coords t 1).val = 6 := by decide +kernel

theorem res_apply (c : Dev nD) (t : Fin (cfgA a).N) (R : Fin 2304) (j : Fin 1024) : res a m ρ c t (ix2 R j) = rd (accB a m ρ c t.succ) R j := by
  unfold res rd
  generalize accB a m ρ c t.succ = z
  refine Eq.trans (b := (View.readAt (Elt Ideal) sAcc.view (Rect.unit (s := S2304x1024) ![0, 0] S2304x1024.size inb_S2304x1024_S2304x1024_0_0).toLoadRect z) (ix2 R j)) rfl ?_
  refine congrArg z (funext fun b => ?_)
  match b with
  | ⟨0, _⟩ => exact Fin.ext (by show 0 + 1 * R.val = R.val; omega)
  | ⟨1, _⟩ => exact Fin.ext (by show 0 + 1 * j.val = j.val; omega)

/-- A tile's last point. -/
def lastPt (i : Fin 22) : Fin grid0.N := ⟨7 * i.val + 6, by rw [show grid0.N = 154 from by decide +kernel]; omega⟩

theorem lastPt_facts : ∀ i : Fin 22, Pipeline.Window.flushOf grid0 true cc0_transform_4 (lastPt i) = true ∧ (grid0.coords (lastPt i) 0).val = i.val := by decide +kernel

theorem out_covers (a : (pcfg0 (F := Ideal)).Adm) : ((cfgA a).win (4 : Fin 5)).Covers := by
  refine ⟨fun b => ?_, fun β => ?_⟩
  · match b with
    | ⟨0, _⟩ => exact (by decide : 0 < 2304)
    | ⟨1, _⟩ => exact (by decide : 0 < 1024)
  · have h0 : (β ⟨0, Nat.zero_lt_succ _⟩).val < 22 := lt_of_lt_of_eq (β ⟨0, Nat.zero_lt_succ _⟩).isLt (by show (50688 + 2304 - 1) / 2304 = 22; decide)
    have h1 : (β ⟨1, Nat.one_lt_two⟩).val < 1 := lt_of_lt_of_eq (β ⟨1, Nat.one_lt_two⟩).isLt (by show (1024 + 1024 - 1) / 1024 = 1; decide)
    obtain ⟨hf, hc⟩ := lastPt_facts ⟨(β ⟨0, Nat.zero_lt_succ _⟩).val, h0⟩
    have hw : ((cfgA a).win (4 : Fin 5)).index (lastPt ⟨(β ⟨0, Nat.zero_lt_succ _⟩).val, h0⟩) = ![(β ⟨0, Nat.zero_lt_succ _⟩).val, 0] :=
      (map4 _).trans (congrArg (fun n : ℕ => (![n, 0] : Fin 2 → ℕ)) hc)
    refine ⟨lastPt ⟨(β ⟨0, Nat.zero_lt_succ _⟩).val, h0⟩, hf, fun b => ⟨?_, Or.inl rfl⟩⟩
    match b with
    | ⟨0, _⟩ => exact congrFun hw 0
    | ⟨1, _⟩ => exact (congrFun hw 1).trans (by show 0 = (β ⟨1, Nat.one_lt_two⟩).val; omega)

theorem outArr_at (c : Dev nD) (i : Fin 22) (R : Fin 2304) (j : Fin 1024) (r : Fin 50688) (j' : Fin 1024) (hr : r.val = i.val * 2304 + R.val) (hj : j'.val = j.val) :
    outArr m a E c r j' = if R.val < 256 * live a i then ∑ f ∈ Finset.range 7, partOf m E c i R j f else 0 := by
  have e0 : j' = j := Fin.ext hj
  have e1 : tileIx r = i := Fin.ext (by show r.val / 2304 = i.val; omega)
  have e2 : rowIx r = R := Fin.ext (by show r.val % 2304 = R.val; omega)
  have e3 : r.val % 2304 = R.val := by omega
  unfold outArr
  rw [e0, e1, e2, e3]

theorem out_array (hE : ∀ i, tab0 a.1 (ix1 i) = BitVec.ofNat 32 (E i).val) (hN : ∀ y, (tab1 a.1 y).toNat ≤ 9) (c : Dev nD) :
    (dats a m ρ 0 c).arrAt (4 : Fin 5) (cfgA a).N = fun y : S50688x1024.Idx => outArr m a E c (y 0) (y 1) := by
  refine (dats a m ρ 0 c).arrAt_eq_of_covers (4 : Fin 5) _ (out_covers a) fun t hf y => ?_
  have h6 : (chk a t).val = 6 := flush_last t hf
  have hw : ((cfgA a).win (4 : Fin 5)).index t = ![(til a t).val, 0] := map4 (crd a t)
  obtain ⟨R, j, rfl⟩ : ∃ (R : Fin 2304) (j : Fin 1024), y = (ix2 R j : S2304x1024.Idx) := ⟨y 0, y 1, eq_ix2 (y : S2304x1024.Idx)⟩
  refine Eq.trans (b := res a m ρ c t (ix2 R j)) rfl ?_
  rw [res_apply, acc_sum m ρ hE hN c R j t.val t rfl, h6]
  refine (outArr_at m c (til a t) R j _ _ ?_ ?_).symm
  · exact (Pipeline.Window.rect_emb_val ((cfgA a).win (4 : Fin 5)) t (ix2 R j) (⟨0, Nat.zero_lt_succ _⟩ : Fin 2)).trans
      ((congrArg (fun v : Fin 2 → ℕ => v 0 * 2304 + R.val) hw).trans (by show (til a t).val * 2304 + R.val = (til a t).val * 2304 + R.val; rfl))
  · exact (Pipeline.Window.rect_emb_val ((cfgA a).win (4 : Fin 5)) t (ix2 R j) (⟨1, Nat.one_lt_two⟩ : Fin 2)).trans
      ((congrArg (fun v : Fin 2 → ℕ => v 1 * 1024 + j.val) hw).trans (by show 0 * 1024 + j.val = j.val; omega))

end Cert.Moe

end
-- ==== Proof.MoeRefTerm.lean ====
/- ONE EXPERT'S TERM OF THE REFERENCE, for any expert: the whole layer of the expert on a row, times the row's choice of the
   expert. -/
module

public import proofs.«01_k».proof.Proof.Gen.Reference2Ideal.Read
public import proofs.«01_k».proof.Proof.MoeSpec

@[expose] public section

set_option maxRecDepth 16384

noncomputable section

namespace Cert.MoeRef

open Cert.Reference2Ideal Cert.Reference2Ideal.Gen Cert.Reference2Ideal.Read Cert.Moe
open Idealize.ShloMosaic Idealize.ShloMosaic.Pointwise

variable (X : Vec Ideal S50688x512 .i32)

theorem dot_in (g : FVec Ideal S1024x3584 .f32) (r : Fin 50688) (k : Fin 3584) :
    Host.dotGeneral (F := Ideal) (φ₁ := .f32) (φ₂ := .f32) dot_S50688x1024_S1024x3584_S50688x3584_1_0_0_1_n_n none (val_main_v6 (F := Ideal) X) g (ix2 r k)
      = rowDot (fun i => X (ix2 r i)) (fun c => g (ix2 c k)) := by
  unfold val_main_v6 val_main_v5 val_main_v2 val_main_v1 val_main_v4 val_main_v0 val_main_v3 val_main_c val_main_c_0
  pointwise
  rfl

/-- The gate's silu as the reference writes it. -/
def siluOf (a : FVec Ideal S50688x3584 .f32) : FVec Ideal S50688x3584 .f32 :=
  mulf a (Host.divf (val_main_call2_v4 (F := Ideal)) (addf (val_main_call2_v2 (F := Ideal)) (Host.exp (Host.negf a))))

theorem siluOf_apply (a : FVec Ideal S50688x3584 .f32) (y : S50688x3584.Idx) : siluOf a y = a y * Ideal.logistic (a y) := by
  rw [eq_ix2 y]
  unfold siluOf val_main_call2_v4 val_main_call2_v2 val_main_call2_cst val_main_call2_cst_0
  pointwise
  rfl

/-- An expert's layer on every row, times the rows' choice of the expert. -/
def term (w : FVec Ideal S50688x1 .f32) (g u : FVec Ideal S1024x3584 .f32) (d : FVec Ideal S3584x1024 .f32) : FVec Ideal S50688x1024 .f32 :=
  mulf (broadcastInDim S50688x1024 ![0, 1] bcast_S50688x1_S50688x1024_0_1 w)
    (Host.dotGeneral (φ₁ := .f32) (φ₂ := .f32) dot_S50688x3584_S3584x1024_S50688x1024_1_0_0_1_n_n none
      (mulf (siluOf (Host.dotGeneral (φ₁ := .f32) (φ₂ := .f32) dot_S50688x1024_S1024x3584_S50688x3584_1_0_0_1_n_n none (val_main_v6 (F := Ideal) X) g))
        (Host.dotGeneral (φ₁ := .f32) (φ₂ := .f32) dot_S50688x1024_S1024x3584_S50688x3584_1_0_0_1_n_n none (val_main_v6 (F := Ideal) X) u)) d)

theorem dot_out (h : FVec Ideal S50688x3584 .f32) (d : FVec Ideal S3584x1024 .f32) (r : Fin 50688) (j : Fin 1024) :
    Host.dotGeneral (F := Ideal) (φ₁ := .f32) (φ₂ := .f32) dot_S50688x3584_S3584x1024_S50688x1024_1_0_0_1_n_n none h d (ix2 r j)
      = ∑ k : Fin 3584, h (ix2 r k) * d (ix2 k j) := by
  pointwise

theorem bcast_out (w : FVec Ideal S50688x1 .f32) (r : Fin 50688) (j : Fin 1024) :
    broadcastInDim S50688x1024 ![0, 1] bcast_S50688x1_S50688x1024_0_1 w (ix2 r j) = w (ix2 r 0) := by
  pointwise

theorem term_apply (w : FVec Ideal S50688x1 .f32) (g u : FVec Ideal S1024x3584 .f32) (d : FVec Ideal S3584x1024 .f32) (r : Fin 50688) (j : Fin 1024) :
    term X w g u d (ix2 r j) = w (ix2 r 0) * ∑ k : Fin 3584, unit1 (fun i => X (ix2 r i)) (fun c => g (ix2 c k)) (fun c => u (ix2 c k)) (d (ix2 k j)) := by
  unfold term
  refine congrArg₂ (· * ·) (bcast_out w r j) ((dot_out _ _ r j).trans (Finset.sum_congr rfl fun k _ => congrArg (· * d (ix2 k j)) ?_))
  refine congrArg₂ (· * ·) ((siluOf_apply _ _).trans ?_) (dot_in X u r k)
  rw [dot_in X g r k]

theorem gate_slice (e : Fin 8) (x : FVec Ideal S8x1024x3584 .f32) (h : S8x1024x3584.Slices ![e.val, 0, 0] S1x1024x3584) (c : Fin 1024) (k : Fin 3584) :
    shapeCast S1024x3584 (extractStridedSlice S1x1024x3584 ![e.val, 0, 0] x h) shapeCasts_S1x1024x3584_S1024x3584 (ix2 c k) = x (ix3 e c k) := by
  pointwise

theorem down_slice (e : Fin 8) (x : FVec Ideal S8x3584x1024 .f32) (h : S8x3584x1024.Slices ![e.val, 0, 0] S1x3584x1024) (k : Fin 3584) (j : Fin 1024) :
    shapeCast S3584x1024 (extractStridedSlice S1x3584x1024 ![e.val, 0, 0] x h) shapeCasts_S1x3584x1024_S3584x1024 (ix2 k j) = x (ix3 e k j) := by
  pointwise

theorem choice_slice (e : Fin 8) (x : FVec Ideal S50688x8 .f32) (h : S50688x8.Slices ![0, e.val] S50688x1) (r : Fin 50688) :
    extractStridedSlice S50688x1 ![0, e.val] x h (ix2 r 0) = x (ix2 r e) := by
  pointwise

end Cert.MoeRef

end
-- ==== Proof.MoeRef.lean ====
/- THE REFERENCE AT AN ELEMENT. A row belongs to the tile of 2304 rows it lies in; the tile names one expert and the number of
   its live units of 256 rows. A live row is that expert's layer on the row; a row past the live ones is zero. -/
module

public import proofs.«01_k».proof.Proof.MoeRefTerm
public import Idealize.ShloMosaic.Lib.Routing.Words

@[expose] public section

set_option maxRecDepth 16384

noncomputable section

namespace Cert.MoeRef

open Cert.Reference2Ideal Cert.Reference2Ideal.Gen Cert.Reference2Ideal.Read Cert.Moe
open Idealize.ShloMosaic Idealize.ShloMosaic.Pointwise

/-- The tile of a row. -/
def tileOf (r : Fin 50688) : Fin 22 := ⟨r.val / 2304, by have := r.isLt; omega⟩

/-- Small naturals compare as their words do. -/
theorem slt_words {a b : ℕ} (ha : a < 2 ^ 31) (hb : b < 2 ^ 31) :
    IntOp.cmpi .slt (BitVec.ofNat 32 a) (BitVec.ofNat 32 b) = BitVec.ofBool (decide (a < b)) := by
  have e (n : ℕ) (h : n < 2 ^ 31) : (BitVec.ofNat 32 n).toInt = n := by
    rw [BitVec.toInt_eq_toNat_of_lt (by rw [BitVec.toNat_ofNat]; omega), BitVec.toNat_ofNat, Nat.mod_eq_of_lt (by omega)]
  show BitVec.ofBool (BitVec.slt _ _) = _
  rw [BitVec.slt_eq_decide, e a ha, e b hb]
  congr 1
  exact decide_eq_decide.mpr (by omega)

theorem not_negative {a : ℕ} (ha : a < 2 ^ 31) : IntOp.cmpi .slt (BitVec.ofNat 32 a) 0#32 = 0#1 := by
  rw [slt_words ha (by omega), decide_eq_false (by omega)]; rfl

theorem sel_zero (a b : BitVec 32) : Scalar.select (0#1) a b = b := rfl

theorem word_ne {n : ℕ} (hn : n < 2 ^ 31) (h0 : n ≠ 0) : ¬BitVec.ofNat 32 n = 0 := fun e => by
  have t : (BitVec.ofNat 32 n).toNat = n := by rw [BitVec.toNat_ofNat, Nat.mod_eq_of_lt (by omega)]
  exact h0 (by rw [← t, e]; rfl)

theorem word_pos {n : ℕ} (hn : n < 2 ^ 31) : ¬(BitVec.ofNat 32 n).msb = true := by
  have t : (BitVec.ofNat 32 n).toNat = n := by rw [BitVec.toNat_ofNat, Nat.mod_eq_of_lt (by omega)]
  rw [BitVec.msb_eq_decide, t]; simp; omega

theorem divisor_word : (id (constantI S_ 32 2304#32) ix0 : BitVec 32) = 2304#32 := rfl

/-- The sign-corrected quotient of a row's number is the row's tile. -/
theorem tile_word (r : Fin 50688) : val_main_v8 (F := Ideal) (ix1 r) = BitVec.ofNat 32 (r.val / 2304) := by
  have hr := r.isLt
  unfold val_main_v8 val_main_call0_v11 val_main_call0_v13 val_main_call0_v6 val_main_call0_v10 val_main_call0_v3 val_main_call0_v5 val_main_call0_v4 val_main_call0_v8
    val_main_call0_v9 val_main_call0_c val_main_call0_v7 val_main_call0_v12 val_main_call0_c_0 val_main_call0_v2 val_main_call0_v1 val_main_call0_v0 val_main_v7 val_main_c_1
  pointwise
  rw [divisor_word, Routing.divsi_word _ (by omega) (by omega) (by omega), Routing.remsi_word _ (by omega) (by omega) (by omega)]
  by_cases h0 : r.val = 0
  · have hq : IntOp.cmpi CmpIPredicate.ne (BitVec.ofNat 32 (r.val % 2304)) 0#32 = 0#1 := by
      have : r.val % 2304 = 0 := by omega
      generalize r.val % 2304 = q at this
      subst this
      decide
    rw [hq]
    exact (congrArg (fun b => Scalar.select b _ _) BitVec.and_zero).trans (sel_zero _ _)
  · have hs : IntOp.cmpi CmpIPredicate.ne (1 : BitVec 32) (1#32) = 0#1 := by decide
    have hd : (if (2304#32 : BitVec 32) = 0 then (0 : BitVec 32) else if BitVec.msb 2304#32 = true then -1 else 1) = 1#32 := by decide
    rw [hd, if_neg (word_ne (by omega) h0)]
    refine (congrArg (fun b => Scalar.select (IntOp.andi (IntOp.cmpi CmpIPredicate.ne b (1#32)) _) _ _) (if_neg (word_pos (n := r.val) (by omega)))).trans ?_
    show Scalar.select (IntOp.andi (IntOp.cmpi CmpIPredicate.ne (1 : BitVec 32) (1#32)) _) _ _ = _
    rw [hs]
    exact (congrArg (fun b => Scalar.select b _ _) BitVec.zero_and).trans (sel_zero _ _)

theorem index_word (r : Fin 50688) : val_main_v15 (F := Ideal) (ix2 r 0) = BitVec.ofNat 32 (r.val / 2304) := by
  have hr := r.isLt
  unfold val_main_v15 val_main_v14 val_main_v11 val_main_v13 val_main_v10 val_main_c_3
  pointwise
  rw [tile_word, not_negative (by omega), sel_zero]

theorem index_word' (r : Fin 50688) : val_main_v25 (F := Ideal) (ix2 r 0) = BitVec.ofNat 32 (r.val / 2304) := by
  have hr := r.isLt
  unfold val_main_v25 val_main_v24 val_main_v21 val_main_v23 val_main_v20 val_main_c_6
  pointwise
  rw [tile_word, not_negative (by omega), sel_zero]

theorem rest_word (r : Fin 50688) : val_main_v9 (F := Ideal) (ix1 r) = BitVec.ofNat 32 (r.val % 2304) := by
  have hr := r.isLt
  have hz : Scalar.select (IntOp.cmpi CmpIPredicate.eq (2304#32) 0#32) (1#32) (2304#32) = 2304#32 := by decide
  have hs : IntOp.cmpi CmpIPredicate.ne (0#1) (IntOp.cmpi CmpIPredicate.slt (2304#32) 0#32) = 0#1 := by decide
  unfold val_main_v9 val_main_call1_v12 val_main_call1_v11 val_main_call1_v8 val_main_call1_v10 val_main_call1_v9 val_main_call1_v7 val_main_call1_v6 val_main_call1_v5 val_main_call1_v14 val_main_call1_v13
    val_main_call1_v4 val_main_call1_v3 val_main_call1_v2 val_main_call1_v1 val_main_call1_v0 val_main_c_2 val_main_call1_c val_main_call1_c_0 val_main_call1_c_1 val_main_call1_c_2 val_main_call1_c_3 val_main_v7
  pointwise
  rw [divisor_word, hz, Routing.remsi_word _ (by omega) (by omega) (by omega), not_negative (by omega), hs]
  exact (congrArg (fun b => Scalar.select b _ _) BitVec.zero_and).trans (sel_zero _ _)

theorem clamp_word (r N : ℕ) (hN : N < 2 ^ 30) (h : r ≤ N) : min (BitVec.ofNat 32 r).toInt.toNat N = r := by
  rw [BitVec.toInt_eq_toNat_of_lt (by rw [BitVec.toNat_ofNat]; omega), BitVec.toNat_ofNat, Nat.mod_eq_of_lt (by omega)]
  simp [h]

/-- A table's entry, gathered at a row. -/
theorem gather_tile (T : S22.Idx → BitVec 32) (idx : IVec S50688x1 32) (r : Fin 50688) (i : Fin 22) (hr : idx (ix2 r 0) = BitVec.ofNat 32 i.val) :
    Host.gather gather_S22_S50688x1_S50688_n_0_n_n_0_1_1 T idx (ix1 r) = T (ix1 i) := by
  unfold Host.gather
  refine congrArg T (funext fun a => Fin.ext ?_)
  match a with
  | ⟨0, _⟩ =>
    show min (idx _).toInt.toNat 21 + 0 + 0 = i.val
    refine (congrArg (fun w : BitVec 32 => min w.toInt.toNat 21 + 0 + 0) ((congrArg idx ?_).trans hr)).trans ?_
    · funext b'
      match b' with
      | ⟨0, _⟩ => rfl
      | ⟨1, _⟩ => rfl
    · exact clamp_word i.val 21 (by omega) (by have := i.isLt; omega)

section Tables
variable {T1 T2 : S22.Idx → BitVec 32} {E : Fin 22 → Fin 8} {N : Fin 22 → ℕ}

theorem uitofp_bit (p : Prop) [Decidable p] : FloatOps.uitofp (F := Ideal) FTy.f32 (BitVec.ofBool (decide p)) = if p then (1 : EReal) else 0 := by
  by_cases h : p
  · rw [if_pos h, decide_eq_true h]; show (((1 : ℕ) : ℝ) : EReal) = 1; simp
  · rw [if_neg h, decide_eq_false h]; show (((0 : ℕ) : ℝ) : EReal) = 0; simp

theorem expert_bit : ∀ a e : Fin 8, IntOp.cmpi CmpIPredicate.eq (BitVec.ofNat 32 a.val) (BitVec.ofNat 32 e.val) = BitVec.ofBool (decide (a = e)) := by decide +kernel

theorem and_bits (p q : Prop) [Decidable p] [Decidable q] : IntOp.andi (BitVec.ofBool (decide p)) (BitVec.ofBool (decide q)) = BitVec.ofBool (decide (p ∧ q)) := by
  by_cases hp : p <;> by_cases hq : q <;> simp [hp, hq] <;> decide

/-- A row's choice of an expert: one where the row is live and its tile names the expert, else zero. -/
theorem choice (hE : ∀ i, T1 (ix1 i) = BitVec.ofNat 32 (E i).val) (hT : ∀ i, T2 (ix1 i) = BitVec.ofNat 32 (N i)) (hN : ∀ i, N i ≤ 9) (r : Fin 50688) (e : Fin 8) :
    val_main_v36 (F := Ideal) T1 T2 (ix2 r e) = if E (tileOf r) = e ∧ r.val % 2304 < 256 * N (tileOf r) then (1 : EReal) else 0 := by
  have h9 := hN (tileOf r)
  have h1 : val_main_v26 (F := Ideal) T1 (ix1 r) = BitVec.ofNat 32 (E (tileOf r)).val := by
    unfold val_main_v26
    exact (gather_tile T1 _ r (tileOf r) (index_word' r)).trans (hE _)
  have h2 : val_main_v16 (F := Ideal) T2 (ix1 r) = BitVec.ofNat 32 (N (tileOf r)) := by
    unfold val_main_v16
    exact (gather_tile T2 _ r (tileOf r) (index_word r)).trans (hT _)
  have h3 : IntOp.muli (BitVec.ofNat 32 (N (tileOf r))) 256#32 = BitVec.ofNat 32 (256 * N (tileOf r)) := by
    rw [Nat.mul_comm]
    exact (BitVec.ofNat_mul ..).symm
  unfold val_main_v36 val_main_v35 val_main_v32 val_main_v34 val_main_v33 val_main_v30 val_main_v31 val_main_v29 val_main_v28 val_main_v27 val_main_v19 val_main_v18 val_main_v17 val_main_c_5
  pointwise
  rw [h1, h2, h3, rest_word, slt_words (by omega) (by omega), expert_bit, and_bits]
  exact uitofp_bit _
end Tables

end Cert.MoeRef

end
-- ==== Proof.MoeRefSum.lean ====
/- THE REFERENCE'S RESULT AT AN ELEMENT: the eight experts' terms, of which a row's choice leaves one or none. -/
module

public import proofs.«01_k».proof.Proof.MoeRef

@[expose] public section

set_option maxRecDepth 16384

noncomputable section

namespace Cert.MoeRef

open Cert.Reference2Ideal Cert.Reference2Ideal.Gen Cert.Reference2Ideal.Read Cert.Moe
open Idealize.ShloMosaic Idealize.ShloMosaic.Pointwise

variable (X : Vec Ideal S50688x512 .i32) (T1 T2 : S22.Idx → BitVec 32) (G U : FVec Ideal S8x1024x3584 .f32) (D : FVec Ideal S8x3584x1024 .f32)

/-- One expert's layer on a row. -/
def expert (e : Fin 8) (r : Fin 50688) (j : Fin 1024) : EReal :=
  ∑ k : Fin 3584, unit1 (fun i => X (ix2 r i)) (fun c => G (ix3 e c k)) (fun c => U (ix3 e c k)) (D (ix3 e k j))

/-- A term of the reference, its slices being expert `e`'s. -/
theorem term_expert (e : Fin 8) (hw hg hu hd) (r : Fin 50688) (j : Fin 1024) :
    term X (extractStridedSlice S50688x1 ![0, e.val] (val_main_v36 (F := Ideal) T1 T2) hw)
        (shapeCast S1024x3584 (extractStridedSlice S1x1024x3584 ![e.val, 0, 0] G hg) shapeCasts_S1x1024x3584_S1024x3584)
        (shapeCast S1024x3584 (extractStridedSlice S1x1024x3584 ![e.val, 0, 0] U hu) shapeCasts_S1x1024x3584_S1024x3584)
        (shapeCast S3584x1024 (extractStridedSlice S1x3584x1024 ![e.val, 0, 0] D hd) shapeCasts_S1x3584x1024_S3584x1024) (ix2 r j)
      = val_main_v36 (F := Ideal) T1 T2 (ix2 r e) * expert X G U D e r j := by
  rw [term_apply]
  refine congrArg₂ (· * ·) (choice_slice e _ hw r) (Finset.sum_congr rfl fun k _ => ?_)
  rw [down_slice e D hd k j, funext (fun c => gate_slice e G hg c k), funext (fun c => gate_slice e U hu c k)]

theorem sum_apply (r : Fin 50688) (j : Fin 1024) :
    val_main_v158 (F := Ideal) X T1 T2 G U D (ix2 r j) = ∑ e : Fin 8, val_main_v36 (F := Ideal) T1 T2 (ix2 r e) * expert X G U D e r j := by
  have t0 : val_main_v51 (F := Ideal) X T1 T2 G U D (ix2 r j) = _ := term_expert X T1 T2 G U D 0 _ _ _ _ r j
  have t1 : val_main_v66 (F := Ideal) X T1 T2 G U D (ix2 r j) = _ := term_expert X T1 T2 G U D 1 _ _ _ _ r j
  have t2 : val_main_v81 (F := Ideal) X T1 T2 G U D (ix2 r j) = _ := term_expert X T1 T2 G U D 2 _ _ _ _ r j
  have t3 : val_main_v96 (F := Ideal) X T1 T2 G U D (ix2 r j) = _ := term_expert X T1 T2 G U D 3 _ _ _ _ r j
  have t4 : val_main_v111 (F := Ideal) X T1 T2 G U D (ix2 r j) = _ := term_expert X T1 T2 G U D 4 _ _ _ _ r j
  have t5 : val_main_v126 (F := Ideal) X T1 T2 G U D (ix2 r j) = _ := term_expert X T1 T2 G U D 5 _ _ _ _ r j
  have t6 : val_main_v141 (F := Ideal) X T1 T2 G U D (ix2 r j) = _ := term_expert X T1 T2 G U D 6 _ _ _ _ r j
  have t7 : val_main_v156 (F := Ideal) X T1 T2 G U D (ix2 r j) = _ := term_expert X T1 T2 G U D 7 _ _ _ _ r j
  unfold val_main_v158 val_main_v157 val_main_v142 val_main_v127 val_main_v112 val_main_v97 val_main_v82 val_main_v67 val_main_v52 val_main_v37 val_main_cst
  pointwise
  rw [t0, t1, t2, t3, t4, t5, t6, t7]
  rw [Fin.sum_univ_eight]

variable {T1 T2} {E : Fin 22 → Fin 8} {N : Fin 22 → ℕ}

/-- The reference's result at an element. -/
theorem ref_apply (hE : ∀ i, T1 (ix1 i) = BitVec.ofNat 32 (E i).val) (hT : ∀ i, T2 (ix1 i) = BitVec.ofNat 32 (N i)) (hN : ∀ i, N i ≤ 9) (r : Fin 50688) (j : Fin 1024) :
    val_main_v158 (F := Ideal) X T1 T2 G U D (ix2 r j) = if r.val % 2304 < 256 * N (tileOf r) then expert X G U D (E (tileOf r)) r j else 0 := by
  rw [sum_apply, Finset.sum_eq_single (E (tileOf r))]
  · rw [choice hE hT hN]
    by_cases h : r.val % 2304 < 256 * N (tileOf r)
    · rw [if_pos ⟨rfl, h⟩, if_pos h, one_mul]
    · rw [if_neg (fun h' => h h'.2), if_neg h, zero_mul]
  · intro e _ he
    rw [choice hE hT hN, if_neg (fun h' => he h'.1.symm), zero_mul]
  · intro h; exact absurd (Finset.mem_univ _) h

end Cert.MoeRef

end
-- ==== Proof.MoeEq.lean ====
/- THE EQUATION. The call's array is the reference's: the seven chunks of 512 hidden units are the expert's 3584, and of the
   reference's eight terms the one of the tile's expert is left. -/
module

public import proofs.«01_k».proof.Proof.MoeSum
public import proofs.«01_k».proof.Proof.MoeRefSum

@[expose] public section

set_option maxRecDepth 16384

noncomputable section

namespace Cert.Moe

open Cert.Kernel2Ideal Cert.Kernel2Ideal.Gen
open Idealize.ShloMosaic Idealize.ShloMosaic.Pointwise Idealize.ShloMosaic.TcCoe Idealize.SL.Sem

/-- The hidden units, seven times 512. -/
theorem sum_units (f : Fin 3584 → EReal) : ∑ k : Fin 3584, f k = ∑ g : Fin 7, ∑ k : Fin 512, f (unitAt g k) := by
  refine (Equiv.sum_comp (finProdFinEquiv : Fin 7 × Fin 512 ≃ Fin 3584) f).symm.trans ((Fintype.sum_prod_type _).trans ?_)
  refine Finset.sum_congr rfl fun g _ => Finset.sum_congr rfl fun k _ => congrArg f (Fin.ext ?_)
  show k.val + 512 * g.val = 512 * g.val + k.val
  omega

theorem row_eq (r : Fin 50688) : rowAt (tileIx r) (rowIx r) = r := Fin.ext (by show 2304 * (r.val / 2304) + r.val % 2304 = r.val; omega)

variable (m : (ℓ : Loc nD τ sig) → Buf (Elt Ideal) ℓ) (ρ : Dev nD → PrngReg)

theorem chunks_eq (E : Fin 22 → Fin 8) (c : Dev nD) (r : Fin 50688) (j : Fin 1024) :
    ∑ f ∈ Finset.range 7, partOf m E c (tileIx r) (rowIx r) j f = Cert.MoeRef.expert (arrX m c) (arrG m c) (arrU m c) (arrD m c) (E (tileIx r)) r j := by
  unfold Cert.MoeRef.expert
  rw [Finset.sum_range, sum_units]
  refine Finset.sum_congr rfl fun f _ => ?_
  unfold partOf
  rw [dif_pos f.isLt, row_eq]
  rfl

/-- The call's array is the reference's. -/
theorem arrays_eq (a : (pcfg0 (F := Ideal)).Adm) (hp : ∀ (c : Dev nD) (j : Fin 2), m ((c : Thread nD τ).loc (pre0.ref j)) = a.1 j)
    (ht : ∀ y, (tab0 a.1 y).toNat < 8) (hn : ∀ y, (tab1 a.1 y).toNat ≤ 9) (c : Dev nD) :
    Cert.Reference2Ideal.Read.val_main_v158 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      = (dats a m ρ 0 c).arrAt (4 : Fin 5) (cfgA a).N := by
  have e1 : m ((c.tc : Thread nD τ).loc main_arg1) = tab0 a.1 := hp c 0
  have e2 : m ((c.tc : Thread nD τ).loc main_arg2) = tab1 a.1 := hp c 1
  have hE : ∀ i : Fin 22, tab0 a.1 (ix1 i) = BitVec.ofNat 32 ((fun i => (⟨(tab0 a.1 (ix1 i)).toNat, ht _⟩ : Fin 8)) i).val := fun i => by
    show _ = BitVec.ofNat 32 (tab0 a.1 (ix1 i)).toNat
    rw [BitVec.ofNat_toNat, BitVec.setWidth_eq]
  have hN : ∀ i : Fin 22, tab1 a.1 (ix1 i) = BitVec.ofNat 32 (live a i) := fun i => by
    rw [BitVec.ofNat_toNat, BitVec.setWidth_eq]
  rw [out_array m ρ hE hn c, e1, e2]
  funext y
  obtain ⟨r, j, rfl⟩ : ∃ (r : Fin 50688) (j : Fin 1024), y = (ix2 r j : S50688x1024.Idx) := ⟨y 0, y 1, eq_ix2 (y : S50688x1024.Idx)⟩
  refine (Cert.MoeRef.ref_apply _ _ _ _ hE hN (fun i => hn _) r j).trans ?_
  show _ = outArr m a _ c r j
  unfold outArr
  rw [chunks_eq]
  rfl

end Cert.Moe

end
-- ==== Proof.lean ====
/- THE CLAIMS. The programs' frames, the named mask constant, the equation of the kernel's attention with the reference's under
   the precondition that the scores are finite, and the equation of the kernel's experts with the reference's under the
   precondition that the tables are in range. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equation
public import proofs.«01_k».proof.Proof.Finite
public import proofs.«01_k».proof.Proof.MoeEq
public import proofs.«01_k».proof.Proof.MoeBitsTables
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal.Run
public import proofs.«01_k».proof.Proof.Gen.Reference2Ideal.Read
public import proofs.«01_k».proof.Proof.Gen.Pre_tables_in_range
public import Idealize.ShloMosaic.Adequacy
public import Idealize.ShloMosaic.Init

@[expose] public section

noncomputable section

namespace Cert.Proof

open Idealize.ShloMosaic Idealize.SL.Sem

/-- The reference runs and leaves its arguments, every counter zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) : θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩) (Cert.ReferenceIdeal.Value.run m ρ)

/-- The kernel's attention and the reference's are one array of the arguments. -/
theorem equal [Cert.Pre_finite_scores.Facts] : Cert.algebraic_KernelIdeal_ReferenceIdeal_pre_finite_scores := by
  intro m g m' g' hp ha
  refine ⟨fun c => (Cert.KernelIdeal.Gen.dat1 (Cert.KernelIdeal.Gen.V4 m g) c).arrAt 4 Cert.KernelIdeal.cfg1.N, ?_, ?_⟩
  · exact (θ_run Cert.KernelIdeal.defs _ _).mono (fun r h c => h.1 c) (Cert.KernelIdeal.Attn.frame_value m g)
  · refine (θ_run Cert.ReferenceIdeal.defs _ _).mono (fun r h c => ⟨?_, (h c).2⟩) (Cert.ReferenceIdeal.Value.run m' g')
    obtain ⟨h0, h1, h2, h3⟩ := ha c
    obtain ⟨hq, hk, hr⟩ := Cert.Attn.finite _ _ _ _ (hp c)
    refine (h c).1.trans ((Cert.ReferenceIdeal.Read.val_main_v76_eq m' c).trans (Eq.trans ?_ (Cert.KernelIdeal.Attn.value m g c).symm))
    rw [h0, h1, h2, h3]
    exact (Cert.Attn.arrays_eq _ _ _ _ hq hk hr).symm

/-- The experts' reference runs and leaves its arguments, every counter zero. -/
theorem reference2_frame (m : (ℓ : Loc Cert.Reference2Ideal.nD Cert.Reference2Ideal.τ Cert.Reference2Ideal.sig) → Buf (Elt Ideal) ℓ)
    (ρ : Dev Cert.Reference2Ideal.nD → PrngReg) : θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩) (Cert.Reference2Ideal.Value.run m ρ)

/-- The kernel's experts and the reference's are one array of the arguments. -/
theorem equal2 [Cert.Pre_tables_in_range.Facts] : Cert.algebraic_Kernel2Ideal_Reference2Ideal := by
  intro m g m' g' hpre ha
  obtain ⟨a, hp, ht, hn, hu⟩ := Cert.Moe.tables_in_range m hpre
  refine ⟨fun c => (Cert.Moe.dats a m g 0 c).arrAt (4 : Fin 5) (Cert.Moe.cfgA a).N, ?_, ?_⟩
  · refine (θ_run Cert.Kernel2Ideal.defs _ _).mono (fun r h c => ?_) (Cert.Moe.final a m g hu hp)
    obtain ⟨h0, h1, h2, h3, h4, h5, h6⟩ := h.1 c
    exact ⟨h6, h0, h1, h2, h3, h4, h5⟩
  · refine (θ_run Cert.Reference2Ideal.defs _ _).mono (fun r h c => ⟨?_, (h c).2⟩) (Cert.Reference2Ideal.Value.run m' g')
    obtain ⟨h0, h1, h2, h3, h4, h5⟩ := ha c
    refine (h c).1.trans ((Cert.Reference2Ideal.Read.val_main_v158_eq _).trans (Eq.trans ?_ (Cert.Moe.arrays_eq m g a hp ht hn c)))
    rw [← h0, ← h1, ← h2, ← h3, ← h4, ← h5]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Attn.preFacts, Cert.Pre_tables_in_range.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ h => Cert.MoeBits.frame m ρ h, fun m ρ h => Cert.Moe.frame m ρ h,
    fun m ρ _ => reference2_frame m ρ, fun m ρ _ => reference2_frame m ρ,
    IdealRules.named_const.statement Cert.KernelIdeal.κ "mask" .f32 0xF149F2CA#32 ⊥ rfl,
    letI := Cert.Attn.preFacts; equal,
    trivial,
    letI := Cert.Pre_tables_in_range.Gen.facts; equal2⟩

end Cert.Proof

end
